-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S2x256x2x128 Cert.KernelIdeal.S2x256x1x128
  ∧ IdealRules.bf16_pair.BufferStatement Cert.KernelIdeal.S2x64x2x128 Cert.KernelIdeal.S2x64x1x128
  ∧ IdealRules.bf16_pair.BufferStatement Cert.KernelIdeal.S2x8x2x128 Cert.KernelIdeal.S2x8x1x128
  ∧ IdealRules.bf16_pair.Statement Cert.KernelIdeal.S128x128 Cert.KernelIdeal.S64x128
  ∧ IdealRules.bf16_pair.Statement Cert.KernelIdeal.S1x64x2x128 Cert.KernelIdeal.S1x64x1x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S1x1x2x128 Cert.KernelIdeal.S1x1x1x128

def algebraic_KernelIdeal_ReferenceIdeal_on__covered [hKernelIdeal : Cert.KernelIdeal.Facts] [hReferenceIdeal : Cert.ReferenceIdeal.Facts] [hOn__covered : Cert.On__covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 2048, 3584]⟩ : Shape).Idx, (Cert.On__covered.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v0_0) i = v0 c i)
          ∧ (∀ i : (⟨3, ![8, 2048, 112]⟩ : Shape).Idx, (Cert.On__covered.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v0_1) i = v1 c i)
          ∧ (∀ i : (⟨3, ![8, 896, 256]⟩ : Shape).Idx, (Cert.On__covered.fn (F := Ideal) (m ((c.tc : Thread Cert.KernelIdeal.nD Cert.KernelIdeal.τ).loc Cert.KernelIdeal.main_arg0))).2.2.1 i = 1#1 → r.2.mem ((c.tc : Thread Cert.KernelIdeal.nD Cert.KernelIdeal.τ).loc Cert.KernelIdeal.main_v0_2) i = v2 c i)
          ∧ (∀ i : (⟨2, ![8, 896]⟩ : Shape).Idx, (Cert.On__covered.fn (F := Ideal) (m ((c.tc : Thread Cert.KernelIdeal.nD Cert.KernelIdeal.τ).loc Cert.KernelIdeal.main_arg0))).2.2.2.1 i = 1#1 → r.2.mem ((c.tc : Thread Cert.KernelIdeal.nD Cert.KernelIdeal.τ).loc Cert.KernelIdeal.main_v0_3) i = v3 c i)
          ∧ (∀ i : (⟨1, ![8]⟩ : Shape).Idx, (Cert.On__covered.fn (F := Ideal) (m ((c.tc : Thread Cert.KernelIdeal.nD Cert.KernelIdeal.τ).loc Cert.KernelIdeal.main_arg0))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 2048, 3584]⟩ : Shape).Idx, (Cert.On__covered.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v0_0) i = v0 c i)
          ∧ (∀ i : (⟨3, ![8, 2048, 112]⟩ : Shape).Idx, (Cert.On__covered.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v0_1) i = v1 c i)
          ∧ (∀ i : (⟨3, ![8, 896, 256]⟩ : Shape).Idx, (Cert.On__covered.fn (F := Ideal) (m ((c.tc : Thread Cert.KernelIdeal.nD Cert.KernelIdeal.τ).loc Cert.KernelIdeal.main_arg0))).2.2.1 i = 1#1 → r.2.mem ((c.tc : Thread Cert.ReferenceIdeal.nD Cert.ReferenceIdeal.τ).loc Cert.ReferenceIdeal.main_v0_2) i = v2 c i)
          ∧ (∀ i : (⟨2, ![8, 896]⟩ : Shape).Idx, (Cert.On__covered.fn (F := Ideal) (m ((c.tc : Thread Cert.KernelIdeal.nD Cert.KernelIdeal.τ).loc Cert.KernelIdeal.main_arg0))).2.2.2.1 i = 1#1 → r.2.mem ((c.tc : Thread Cert.ReferenceIdeal.nD Cert.ReferenceIdeal.τ).loc Cert.ReferenceIdeal.main_v0_3) i = v3 c i)
          ∧ (∀ i : (⟨1, ![8]⟩ : Shape).Idx, (Cert.On__covered.fn (F := Ideal) (m ((c.tc : Thread Cert.KernelIdeal.nD Cert.KernelIdeal.τ).loc Cert.KernelIdeal.main_arg0))).2.2.2.2 i = 1#1 → r.2.mem ((c.tc : Thread Cert.ReferenceIdeal.nD Cert.ReferenceIdeal.τ).loc Cert.ReferenceIdeal.main_v0_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn__covered : Cert.On__covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on__covered (hKernelIdeal := hKernelIdeal) (hReferenceIdeal := hReferenceIdeal) (hOn__covered := hOn__covered)
-- ==== On__covered.lean ====
abbrev S8x2048x7168 : Shape := ⟨3, ![8, 2048, 7168]⟩
abbrev S_ : Shape := ⟨0, ![]⟩
abbrev S8x2048x3584 : Shape := ⟨3, ![8, 2048, 3584]⟩
abbrev S8x2048x112 : Shape := ⟨3, ![8, 2048, 112]⟩
abbrev S8x896x256 : Shape := ⟨3, ![8, 896, 256]⟩
abbrev S8x896 : Shape := ⟨2, ![8, 896]⟩
abbrev S8 : Shape := ⟨1, ![8]⟩

class Facts : Prop where
  bcast_S_S8x2048x3584 : S_.BroadcastsInDim S8x2048x3584 (![] : Fin 0 → Fin S8x2048x3584.rank)
  bcast_S_S8x2048x112 : S_.BroadcastsInDim S8x2048x112 (![] : Fin 0 → Fin S8x2048x112.rank)
  bcast_S_S8x896x256 : S_.BroadcastsInDim S8x896x256 (![] : Fin 0 → Fin S8x896x256.rank)
  bcast_S_S8x896 : S_.BroadcastsInDim S8x896 (![] : Fin 0 → Fin S8x896.rank)
  bcast_S_S8 : S_.BroadcastsInDim S8 (![] : Fin 0 → Fin S8.rank)

variable [Facts]

def fn {F : FTy → Type} [FloatOps F] (main_arg0 : FVec F S8x2048x7168 .bf16) : IVec S8x2048x3584 1 × IVec S8x2048x112 1 × IVec S8x896x256 1 × IVec S8x896 1 × IVec S8 1 :=
  let main_c : IVec S_ 1 := constantI S_ 1 1#1
  let main_v0 : IVec S8x2048x3584 1 := broadcastInDim S8x2048x3584 ![] bcast_S_S8x2048x3584 main_c
  let main_c_0 : IVec S_ 1 := constantI S_ 1 1#1
  let main_v1 : IVec S8x2048x112 1 := broadcastInDim S8x2048x112 ![] bcast_S_S8x2048x112 main_c_0
  let main_c_1 : IVec S_ 1 := constantI S_ 1 0#1
  let main_v2 : IVec S8x896x256 1 := broadcastInDim S8x896x256 ![] bcast_S_S8x896x256 main_c_1
  let main_c_2 : IVec S_ 1 := constantI S_ 1 0#1
  let main_v3 : IVec S8x896 1 := broadcastInDim S8x896 ![] bcast_S_S8x896 main_c_2
  let main_c_3 : IVec S_ 1 := constantI S_ 1 0#1
  let main_v4 : IVec S8 1 := broadcastInDim S8 ![] bcast_S_S8 main_c_3
  (main_v0, main_v1, main_v2, main_v3, main_v4)
-- ==== Kernel.lean ====
abbrev S8x2048x7168 : Shape := ⟨3, ![8, 2048, 7168]⟩
abbrev S4x128 : Shape := ⟨2, ![4, 128]⟩
abbrev S4x1x128 : Shape := ⟨3, ![4, 1, 128]⟩
abbrev S128 : Shape := ⟨1, ![128]⟩
abbrev S4x32x128 : Shape := ⟨3, ![4, 32, 128]⟩
abbrev S2x8x128 : Shape := ⟨3, ![2, 8, 128]⟩
abbrev S8x2048x3584 : Shape := ⟨3, ![8, 2048, 3584]⟩
abbrev S8x2048x112 : Shape := ⟨3, ![8, 2048, 112]⟩
abbrev S8x896x256 : Shape := ⟨3, ![8, 896, 256]⟩
abbrev S8x896 : Shape := ⟨2, ![8, 896]⟩
abbrev S8 : Shape := ⟨1, ![8]⟩
abbrev S1x256x7168 : Shape := ⟨3, ![1, 256, 7168]⟩
abbrev S1x256x3584 : Shape := ⟨3, ![1, 256, 3584]⟩
abbrev S1x256x112 : Shape := ⟨3, ![1, 256, 112]⟩
abbrev S1x896x256 : Shape := ⟨3, ![1, 896, 256]⟩
abbrev S2x256x128 : Shape := ⟨3, ![2, 256, 128]⟩
abbrev S2x64x128 : Shape := ⟨3, ![2, 64, 128]⟩
abbrev S128x128 : Shape := ⟨2, ![128, 128]⟩
abbrev S2x128x128 : Shape := ⟨3, ![2, 128, 128]⟩
abbrev S2048x128 : Shape := ⟨2, ![2048, 128]⟩
abbrev S2x896x128 : Shape := ⟨3, ![2, 896, 128]⟩
abbrev S1x32x128 : Shape := ⟨3, ![1, 32, 128]⟩
abbrev S32x128 : Shape := ⟨2, ![32, 128]⟩
abbrev S1x8x128 : Shape := ⟨3, ![1, 8, 128]⟩
abbrev S8x128 : Shape := ⟨2, ![8, 128]⟩
abbrev S16x128 : Shape := ⟨2, ![16, 128]⟩
abbrev S1x16x128 : Shape := ⟨3, ![1, 16, 128]⟩
abbrev S64x128 : Shape := ⟨2, ![64, 128]⟩
abbrev S1x64x128 : Shape := ⟨3, ![1, 64, 128]⟩
abbrev S1x1x128 : Shape := ⟨3, ![1, 1, 128]⟩
abbrev S1x128 : Shape := ⟨2, ![1, 128]⟩
abbrev S16x128x1 : Shape := ⟨3, ![16, 128, 1]⟩
abbrev S32x128x1 : Shape := ⟨3, ![32, 128, 1]⟩
abbrev S1x128x128 : Shape := ⟨3, ![1, 128, 128]⟩
abbrev S16x112 : Shape := ⟨2, ![16, 112]⟩
abbrev S1x16x112 : Shape := ⟨3, ![1, 16, 112]⟩
abbrev S1 : Shape := ⟨1, ![1]⟩
abbrev S1x1x1 : Shape := ⟨3, ![1, 1, 1]⟩
abbrev S8x1 : Shape := ⟨2, ![8, 1]⟩
abbrev S8x128x1 : Shape := ⟨3, ![8, 128, 1]⟩

abbrev nBuf : Space → Nat
  | .hbm => 11
  | .vmem => 20
  | .smem => 1
  | _ => 0

abbrev bufTy : (tb : Table) → Fin (tcTables nBuf tb) → BufTy
  | .hbm, ⟨0, _⟩ => ⟨S8x2048x7168, .bf16⟩
  | .hbm, ⟨1, _⟩ => ⟨S4x128, .i32⟩
  | .hbm, ⟨2, _⟩ => ⟨S4x1x128, .i32⟩
  | .hbm, ⟨3, _⟩ => ⟨S128, .f32⟩
  | .hbm, ⟨4, _⟩ => ⟨S4x32x128, .i32⟩
  | .hbm, ⟨5, _⟩ => ⟨S2x8x128, .f32⟩
  | .hbm, ⟨6, _⟩ => ⟨S8x2048x3584, .i8⟩
  | .hbm, ⟨7, _⟩ => ⟨S8x2048x112, .f32⟩
  | .hbm, ⟨8, _⟩ => ⟨S8x896x256, .i8⟩
  | .hbm, ⟨9, _⟩ => ⟨S8x896, .f32⟩
  | .hbm, ⟨10, _⟩ => ⟨S8, .f32⟩
  | .local _ .vmem, ⟨0, _⟩ => ⟨S1x256x7168, .bf16⟩
  | .local _ .vmem, ⟨1, _⟩ => ⟨S1x256x7168, .bf16⟩
  | .local _ .vmem, ⟨2, _⟩ => ⟨S4x32x128, .i32⟩
  | .local _ .vmem, ⟨3, _⟩ => ⟨S2x8x128, .f32⟩
  | .local _ .vmem, ⟨4, _⟩ => ⟨S1x256x3584, .i8⟩
  | .local _ .vmem, ⟨5, _⟩ => ⟨S1x256x3584, .i8⟩
  | .local _ .vmem, ⟨6, _⟩ => ⟨S1x256x112, .f32⟩
  | .local _ .vmem, ⟨7, _⟩ => ⟨S1x256x112, .f32⟩
  | .local _ .vmem, ⟨8, _⟩ => ⟨S1x896x256, .i8⟩
  | .local _ .vmem, ⟨9, _⟩ => ⟨S1x896x256, .i8⟩
  | .local _ .vmem, ⟨10, _⟩ => ⟨S8x896, .f32⟩
  | .local _ .vmem, ⟨11, _⟩ => ⟨S2x256x128, .i32⟩
  | .local _ .vmem, ⟨12, _⟩ => ⟨S2x64x128, .i32⟩
  | .local _ .vmem, ⟨13, _⟩ => ⟨S2x8x128, .f32⟩
  | .local _ .vmem, ⟨14, _⟩ => ⟨S2x8x128, .i32⟩
  | .local _ .vmem, ⟨15, _⟩ => ⟨S128x128, .i32⟩
  | .local _ .vmem, ⟨16, _⟩ => ⟨S2x128x128, .f32⟩
  | .local _ .vmem, ⟨17, _⟩ => ⟨S2048x128, .f32⟩
  | .local _ .vmem, ⟨18, _⟩ => ⟨S2x896x128, .f32⟩
  | .local _ .vmem, ⟨19, _⟩ => ⟨S128x128, .f32⟩
  | .local _ .smem, ⟨0, _⟩ => ⟨S8, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [BitOps F]

abbrev grid0 : Pipeline.Grid := ⟨2, ![8, 8], ![false, false]⟩

@[reducible] def k0_t1_loop : Scf.Loop 32 :=
  let c0_i32_13 : BitVec 32 := 0#32
  let c14_i32 : BitVec 32 := 14#32
  let v28 : BitVec 32 := Scalar.addi c0_i32_13 c14_i32
  let c1_i32_14 : BitVec 32 := 1#32
  ⟨c0_i32_13, v28, c1_i32_14⟩
def k0_mult1 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  v200
def k0_off1 (k0_t1 : Fin k0_t1_loop.trips) (c0_i32_73 : BitVec 32) : Fin 3 → Nat :=
  let c0_74 : Index := 0#32
  let c0_75 : Index := 0#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v203 : Index := Scalar.indexCast v202
  ![0, 0, v203.toNat]
def k0_off2 (k0_t1 : Fin k0_t1_loop.trips) (c0_i32_73 : BitVec 32) : Fin 3 → Nat :=
  let c0_76 : Index := 0#32
  let c32_77 : Index := 32#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v206 : Index := Scalar.indexCast v202
  ![0, 32, v206.toNat]
def k0_off3 (k0_t1 : Fin k0_t1_loop.trips) (c0_i32_73 : BitVec 32) : Fin 3 → Nat :=
  let c0_78 : Index := 0#32
  let c64_79 : Index := 64#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v209 : Index := Scalar.indexCast v202
  ![0, 64, v209.toNat]
def k0_off4 (k0_t1 : Fin k0_t1_loop.trips) (c0_i32_73 : BitVec 32) : Fin 3 → Nat :=
  let c0_80 : Index := 0#32
  let c96_81 : Index := 96#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v212 : Index := Scalar.indexCast v202
  ![0, 96, v212.toNat]
def k0_off5 (k0_t1 : Fin k0_t1_loop.trips) (c0_i32_73 : BitVec 32) : Fin 3 → Nat :=
  let c0_82 : Index := 0#32
  let c128_83 : Index := 128#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v215 : Index := Scalar.indexCast v202
  ![0, 128, v215.toNat]
def k0_off6 (k0_t1 : Fin k0_t1_loop.trips) (c0_i32_73 : BitVec 32) : Fin 3 → Nat :=
  let c0_84 : Index := 0#32
  let c160_85 : Index := 160#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v218 : Index := Scalar.indexCast v202
  ![0, 160, v218.toNat]
def k0_off7 (k0_t1 : Fin k0_t1_loop.trips) (c0_i32_73 : BitVec 32) : Fin 3 → Nat :=
  let c0_86 : Index := 0#32
  let c192_87 : Index := 192#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v221 : Index := Scalar.indexCast v202
  ![0, 192, v221.toNat]
def k0_off8 (k0_t1 : Fin k0_t1_loop.trips) (c0_i32_73 : BitVec 32) : Fin 3 → Nat :=
  let c0_88 : Index := 0#32
  let c224_89 : Index := 224#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v224 : Index := Scalar.indexCast v202
  ![0, 224, v224.toNat]
def k0_off9 (k0_t1 : Fin k0_t1_loop.trips) (c0_i32_152 : BitVec 32) : Fin 3 → Nat :=
  let c0_153 : Index := 0#32
  let c16_154 : Index := 16#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v327 : Index := Scalar.indexCast v326
  ![0, 16, v327.toNat]
def k0_off10 (k0_t1 : Fin k0_t1_loop.trips) (c0_i32_152 : BitVec 32) : Fin 3 → Nat :=
  let c0_155 : Index := 0#32
  let c48_156 : Index := 48#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v330 : Index := Scalar.indexCast v326
  ![0, 48, v330.toNat]
def k0_off11 (k0_t1 : Fin k0_t1_loop.trips) (c0_i32_152 : BitVec 32) : Fin 3 → Nat :=
  let c0_157 : Index := 0#32
  let c80_158 : Index := 80#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v333 : Index := Scalar.indexCast v326
  ![0, 80, v333.toNat]
def k0_off12 (k0_t1 : Fin k0_t1_loop.trips) (c0_i32_152 : BitVec 32) : Fin 3 → Nat :=
  let c0_159 : Index := 0#32
  let c112_160 : Index := 112#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v336 : Index := Scalar.indexCast v326
  ![0, 112, v336.toNat]
def k0_off13 (k0_t1 : Fin k0_t1_loop.trips) (c0_i32_152 : BitVec 32) : Fin 3 → Nat :=
  let c0_161 : Index := 0#32
  let c144_162 : Index := 144#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v339 : Index := Scalar.indexCast v326
  ![0, 144, v339.toNat]
def k0_off14 (k0_t1 : Fin k0_t1_loop.trips) (c0_i32_152 : BitVec 32) : Fin 3 → Nat :=
  let c0_163 : Index := 0#32
  let c176_164 : Index := 176#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v342 : Index := Scalar.indexCast v326
  ![0, 176, v342.toNat]
def k0_off15 (k0_t1 : Fin k0_t1_loop.trips) (c0_i32_152 : BitVec 32) : Fin 3 → Nat :=
  let c0_165 : Index := 0#32
  let c208_166 : Index := 208#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v345 : Index := Scalar.indexCast v326
  ![0, 208, v345.toNat]
def k0_off16 (k0_t1 : Fin k0_t1_loop.trips) (c0_i32_152 : BitVec 32) : Fin 3 → Nat :=
  let c0_167 : Index := 0#32
  let c240_168 : Index := 240#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v348 : Index := Scalar.indexCast v326
  ![0, 240, v348.toNat]
def k0_mult2 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c8_i32 : BitVec 32 := 8#32
  let v676 : BitVec 32 := Scalar.muli arg19 c8_i32
  v676
def k0_off17 (k0_t1 : Fin k0_t1_loop.trips) : Fin 3 → Nat :=
  let c0_359 : Index := 0#32
  let c0_i32_13 : BitVec 32 := 0#32
  let c1_i32_14 : BitVec 32 := 1#32
  let arg19 : BitVec 32 := Scf.iv c0_i32_13 c1_i32_14 k0_t1
  let c8_i32 : BitVec 32 := 8#32
  let v676 : BitVec 32 := Scalar.muli arg19 c8_i32
  let v677 : BitVec 32 := v676
  let v678 : Index := Scalar.indexCast v677
  let c0_360 : Index := 0#32
  ![0, v678.toNat, 0]
def k0_mult3 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c8_i32_516 : BitVec 32 := 8#32
  let v920 : BitVec 32 := Scalar.muli arg19 c8_i32_516
  v920
def k0_off18 (k0_t1 : Fin k0_t1_loop.trips) : Fin 3 → Nat :=
  let c1_517 : Index := 1#32
  let c0_i32_13 : BitVec 32 := 0#32
  let c1_i32_14 : BitVec 32 := 1#32
  let arg19 : BitVec 32 := Scf.iv c0_i32_13 c1_i32_14 k0_t1
  let c8_i32_516 : BitVec 32 := 8#32
  let v920 : BitVec 32 := Scalar.muli arg19 c8_i32_516
  let v921 : BitVec 32 := v920
  let v922 : Index := Scalar.indexCast v921
  let c0_518 : Index := 0#32
  ![1, v922.toNat, 0]
@[reducible] def k0_t2_loop : Scf.Loop 32 :=
  let c0_i32_526 : BitVec 32 := 0#32
  let c8_i32_527 : BitVec 32 := 8#32
  let v938 : BitVec 32 := Scalar.addi c0_i32_526 c8_i32_527
  let c1_i32_528 : BitVec 32 := 1#32
  ⟨c0_i32_526, v938, c1_i32_528⟩
def k0_off19 (k0_t2 : Fin k0_t2_loop.trips) : Fin 3 → Nat :=
  let c0_598 : Index := 0#32
  let c0_i32_526 : BitVec 32 := 0#32
  let c1_i32_528 : BitVec 32 := 1#32
  let arg20 : BitVec 32 := Scf.iv c0_i32_526 c1_i32_528 k0_t2
  let v1141 : Index := Scalar.indexCast arg20
  let c0_599 : Index := 0#32
  ![0, v1141.toNat, 0]
def k0_mult4 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_602 : BitVec 32 := 32#32
  let v1151 : BitVec 32 := Scalar.muli arg20 c32_i32_602
  let c0_i32_603 : BitVec 32 := 0#32
  let v1152 : BitVec 32 := Scalar.addi v1151 c0_i32_603
  v1152
def k0_off20 (k0_t2 : Fin k0_t2_loop.trips) (c0_i32_603 : BitVec 32) : Fin 3 → Nat :=
  let c0_604 : Index := 0#32
  let c0_i32_526 : BitVec 32 := 0#32
  let c1_i32_528 : BitVec 32 := 1#32
  let arg20 : BitVec 32 := Scf.iv c0_i32_526 c1_i32_528 k0_t2
  let c32_i32_602 : BitVec 32 := 32#32
  let v1151 : BitVec 32 := Scalar.muli arg20 c32_i32_602
  let v1152 : BitVec 32 := Scalar.addi v1151 c0_i32_603
  let v1153 : BitVec 32 := v1152
  let v1154 : Index := Scalar.indexCast v1153
  let c0_605 : Index := 0#32
  ![0, v1154.toNat, 0]
def k0_mult5 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_612 : BitVec 32 := 32#32
  let v1186 : BitVec 32 := Scalar.muli arg20 c32_i32_612
  let c8_i32_613 : BitVec 32 := 8#32
  let v1187 : BitVec 32 := Scalar.addi v1186 c8_i32_613
  v1187
def k0_mult6 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_624 : BitVec 32 := 32#32
  let v1221 : BitVec 32 := Scalar.muli arg20 c32_i32_624
  let c16_i32_625 : BitVec 32 := 16#32
  let v1222 : BitVec 32 := Scalar.addi v1221 c16_i32_625
  v1222
def k0_mult7 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_636 : BitVec 32 := 32#32
  let v1256 : BitVec 32 := Scalar.muli arg20 c32_i32_636
  let c24_i32 : BitVec 32 := 24#32
  let v1257 : BitVec 32 := Scalar.addi v1256 c24_i32
  v1257
def k0_off21 (k0_t2 : Fin k0_t2_loop.trips) : Fin 3 → Nat :=
  let c1_649 : Index := 1#32
  let c0_i32_526 : BitVec 32 := 0#32
  let c1_i32_528 : BitVec 32 := 1#32
  let arg20 : BitVec 32 := Scf.iv c0_i32_526 c1_i32_528 k0_t2
  let v1337 : Index := Scalar.indexCast arg20
  let c0_650 : Index := 0#32
  ![1, v1337.toNat, 0]
def k0_mult8 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_653 : BitVec 32 := 32#32
  let v1347 : BitVec 32 := Scalar.muli arg20 c32_i32_653
  let c0_i32_654 : BitVec 32 := 0#32
  let v1348 : BitVec 32 := Scalar.addi v1347 c0_i32_654
  v1348
def k0_off22 (k0_t2 : Fin k0_t2_loop.trips) (c0_i32_654 : BitVec 32) : Fin 3 → Nat :=
  let c1_655 : Index := 1#32
  let c0_i32_526 : BitVec 32 := 0#32
  let c1_i32_528 : BitVec 32 := 1#32
  let arg20 : BitVec 32 := Scf.iv c0_i32_526 c1_i32_528 k0_t2
  let c32_i32_653 : BitVec 32 := 32#32
  let v1347 : BitVec 32 := Scalar.muli arg20 c32_i32_653
  let v1348 : BitVec 32 := Scalar.addi v1347 c0_i32_654
  let v1349 : BitVec 32 := v1348
  let v1350 : Index := Scalar.indexCast v1349
  let c0_656 : Index := 0#32
  ![1, v1350.toNat, 0]
def k0_mult9 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_665 : BitVec 32 := 32#32
  let v1382 : BitVec 32 := Scalar.muli arg20 c32_i32_665
  let c8_i32_666 : BitVec 32 := 8#32
  let v1383 : BitVec 32 := Scalar.addi v1382 c8_i32_666
  v1383
def k0_mult10 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_677 : BitVec 32 := 32#32
  let v1417 : BitVec 32 := Scalar.muli arg20 c32_i32_677
  let c16_i32_678 : BitVec 32 := 16#32
  let v1418 : BitVec 32 := Scalar.addi v1417 c16_i32_678
  v1418
def k0_mult11 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_689 : BitVec 32 := 32#32
  let v1452 : BitVec 32 := Scalar.muli arg20 c32_i32_689
  let c24_i32_690 : BitVec 32 := 24#32
  let v1453 : BitVec 32 := Scalar.addi v1452 c24_i32_690
  v1453
def k0_mult12 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c16_i32_706 : BitVec 32 := 16#32
  let v1544 : BitVec 32 := Scalar.muli arg20 c16_i32_706
  let c0_i32_707 : BitVec 32 := 0#32
  let v1545 : BitVec 32 := Scalar.addi v1544 c0_i32_707
  v1545
def k0_off23 (k0_t2 : Fin k0_t2_loop.trips) (c0_i32_707 : BitVec 32) : Fin 2 → Nat :=
  let c0_i32_526 : BitVec 32 := 0#32
  let c1_i32_528 : BitVec 32 := 1#32
  let arg20 : BitVec 32 := Scf.iv c0_i32_526 c1_i32_528 k0_t2
  let c16_i32_706 : BitVec 32 := 16#32
  let v1544 : BitVec 32 := Scalar.muli arg20 c16_i32_706
  let v1545 : BitVec 32 := Scalar.addi v1544 c0_i32_707
  let v1546 : BitVec 32 := v1545
  let v1548 : Index := Scalar.indexCast v1546
  let c0_708 : Index := 0#32
  ![v1548.toNat, 0]
def k0_mult13 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c16_i32_712 : BitVec 32 := 16#32
  let v1563 : BitVec 32 := Scalar.muli arg20 c16_i32_712
  let c8_i32_713 : BitVec 32 := 8#32
  let v1564 : BitVec 32 := Scalar.addi v1563 c8_i32_713
  v1564
def k0_mult14 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  v939
def k0_off24 (k0_t1 : Fin k0_t1_loop.trips) (c0_i32_533 : BitVec 32) : Fin 3 → Nat :=
  let c0_534 : Index := 0#32
  let c0_535 : Index := 0#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v952 : BitVec 32 := Scalar.addi v940 c0_i32_533
  let v953 : Index := Scalar.indexCast v952
  ![0, 0, v953.toNat]
def k0_off25 (k0_t1 : Fin k0_t1_loop.trips) (c0_i32_537 : BitVec 32) : Fin 3 → Nat :=
  let c0_538 : Index := 0#32
  let c32_539 : Index := 32#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v964 : BitVec 32 := Scalar.addi v940 c0_i32_537
  let v965 : Index := Scalar.indexCast v964
  ![0, 32, v965.toNat]
def k0_off26 (k0_t1 : Fin k0_t1_loop.trips) (c0_i32_541 : BitVec 32) : Fin 3 → Nat :=
  let c0_542 : Index := 0#32
  let c64_543 : Index := 64#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v976 : BitVec 32 := Scalar.addi v940 c0_i32_541
  let v977 : Index := Scalar.indexCast v976
  ![0, 64, v977.toNat]
def k0_off27 (k0_t1 : Fin k0_t1_loop.trips) (c0_i32_545 : BitVec 32) : Fin 3 → Nat :=
  let c0_546 : Index := 0#32
  let c96_547 : Index := 96#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v988 : BitVec 32 := Scalar.addi v940 c0_i32_545
  let v989 : Index := Scalar.indexCast v988
  ![0, 96, v989.toNat]
def k0_off28 (k0_t1 : Fin k0_t1_loop.trips) (c0_i32_549 : BitVec 32) : Fin 3 → Nat :=
  let c0_550 : Index := 0#32
  let c128_551 : Index := 128#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1000 : BitVec 32 := Scalar.addi v940 c0_i32_549
  let v1001 : Index := Scalar.indexCast v1000
  ![0, 128, v1001.toNat]
def k0_off29 (k0_t1 : Fin k0_t1_loop.trips) (c0_i32_553 : BitVec 32) : Fin 3 → Nat :=
  let c0_554 : Index := 0#32
  let c160_555 : Index := 160#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1012 : BitVec 32 := Scalar.addi v940 c0_i32_553
  let v1013 : Index := Scalar.indexCast v1012
  ![0, 160, v1013.toNat]
def k0_off30 (k0_t1 : Fin k0_t1_loop.trips) (c0_i32_557 : BitVec 32) : Fin 3 → Nat :=
  let c0_558 : Index := 0#32
  let c192_559 : Index := 192#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1024 : BitVec 32 := Scalar.addi v940 c0_i32_557
  let v1025 : Index := Scalar.indexCast v1024
  ![0, 192, v1025.toNat]
def k0_off31 (k0_t1 : Fin k0_t1_loop.trips) (c0_i32_561 : BitVec 32) : Fin 3 → Nat :=
  let c0_562 : Index := 0#32
  let c224_563 : Index := 224#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1036 : BitVec 32 := Scalar.addi v940 c0_i32_561
  let v1037 : Index := Scalar.indexCast v1036
  ![0, 224, v1037.toNat]
def k0_mult15 (i : grid0.Coords) : BitVec 32 :=
  let arg1 : BitVec 32 := BitVec.ofNat 32 (i 1).val
  let c256_i32 : BitVec 32 := 256#32
  let v29 : BitVec 32 := Scalar.muli arg1 c256_i32
  v29
def k0_off32 (i : grid0.Coords) (c0_i32_22 : BitVec 32) : Fin 2 → Nat :=
  let arg1 : BitVec 32 := BitVec.ofNat 32 (i 1).val
  let c256_i32 : BitVec 32 := 256#32
  let v29 : BitVec 32 := Scalar.muli arg1 c256_i32
  let v30 : BitVec 32 := v29
  let v39 : BitVec 32 := Scalar.addi v30 c0_i32_22
  let v40 : Index := Scalar.indexCast v39
  let c0_23 : Index := 0#32
  ![v40.toNat, 0]
def k0_cond1 (i : grid0.Coords) : BitVec 1 :=
  let arg1 : BitVec 32 := BitVec.ofNat 32 (i 1).val
  let c7_i32 : BitVec 32 := 7#32
  let v197 : BitVec 1 := Scalar.cmpi .eq arg1 c7_i32
  let v198 : BitVec 32 := Scalar.extui v197
  let c0_i32_72 : BitVec 32 := 0#32
  let v199 : BitVec 1 := Scalar.cmpi .ne v198 c0_i32_72
  v199

@[reducible] def k0_t3_loop : Scf.Loop 32 :=
  let c0_i32_74 : BitVec 32 := 0#32
  let c32_i32_75 : BitVec 32 := 32#32
  let v204 : BitVec 32 := Scalar.addi c0_i32_74 c32_i32_75
  let c1_i32_76 : BitVec 32 := 1#32
  ⟨c0_i32_74, v204, c1_i32_76⟩
def k0_mult16 (k0_t3 : Fin k0_t3_loop.trips) : BitVec 32 :=
  let c0_i32_74 : BitVec 32 := 0#32
  let c1_i32_76 : BitVec 32 := 1#32
  let arg19 : BitVec 32 := Scf.iv c0_i32_74 c1_i32_76 k0_t3
  let c64_i32_527 : BitVec 32 := 64#32
  let v946 : BitVec 32 := Scalar.muli arg19 c64_i32_527
  v946
def k0_off33 (k0_t3 : Fin k0_t3_loop.trips) (c0_i32_528 : BitVec 32) : Fin 2 → Nat :=
  let c0_i32_74 : BitVec 32 := 0#32
  let c1_i32_76 : BitVec 32 := 1#32
  let arg19 : BitVec 32 := Scf.iv c0_i32_74 c1_i32_76 k0_t3
  let c64_i32_527 : BitVec 32 := 64#32
  let v946 : BitVec 32 := Scalar.muli arg19 c64_i32_527
  let v947 : BitVec 32 := v946
  let v948 : BitVec 32 := Scalar.addi v947 c0_i32_528
  let v949 : Index := Scalar.indexCast v948
  let c0_529 : Index := 0#32
  ![v949.toNat, 0]
def k0_off34 (i : grid0.Coords) : Fin 1 → Nat :=
  let arg0 : BitVec 32 := BitVec.ofNat 32 (i 0).val
  let v213 : Index := Scalar.indexCast arg0
  ![v213.toNat]
@[reducible] def k0_t4_loop : Scf.Loop 32 :=
  let c0_i32_81 : BitVec 32 := 0#32
  let c16_i32_82 : BitVec 32 := 16#32
  let v215 : BitVec 32 := Scalar.addi c0_i32_81 c16_i32_82
  let c1_i32_83 : BitVec 32 := 1#32
  ⟨c0_i32_81, v215, c1_i32_83⟩
def k0_off35 (k0_t4 : Fin k0_t4_loop.trips) (c0_i32_528 : BitVec 32) : Fin 2 → Nat :=
  let c0_i32_81 : BitVec 32 := 0#32
  let c1_i32_83 : BitVec 32 := 1#32
  let arg19 : BitVec 32 := Scf.iv c0_i32_81 c1_i32_83 k0_t4
  let c128_i32_527 : BitVec 32 := 128#32
  let v946 : BitVec 32 := Scalar.muli arg19 c128_i32_527
  let v947 : BitVec 32 := Scalar.addi v946 c0_i32_528
  let v948 : Index := Scalar.indexCast v947
  let c0_529 : Index := 0#32
  ![v948.toNat, 0]
def k0_off36 (k0_t4 : Fin k0_t4_loop.trips) (c0_i32_559 : BitVec 32) : Fin 3 → Nat :=
  let c0_560 : Index := 0#32
  let c0_i32_81 : BitVec 32 := 0#32
  let c1_i32_83 : BitVec 32 := 1#32
  let arg19 : BitVec 32 := Scf.iv c0_i32_81 c1_i32_83 k0_t4
  let c56_i32 : BitVec 32 := 56#32
  let v1059 : BitVec 32 := Scalar.muli arg19 c56_i32
  let v1060 : BitVec 32 := Scalar.addi v1059 c0_i32_559
  let v1061 : Index := Scalar.indexCast v1060
  let c0_561 : Index := 0#32
  ![0, v1061.toNat, 0]
def k0_off37 (k0_t4 : Fin k0_t4_loop.trips) (c0_i32_565 : BitVec 32) : Fin 3 → Nat :=
  let c1_566 : Index := 1#32
  let c0_i32_81 : BitVec 32 := 0#32
  let c1_i32_83 : BitVec 32 := 1#32
  let arg19 : BitVec 32 := Scf.iv c0_i32_81 c1_i32_83 k0_t4
  let c56_i32_564 : BitVec 32 := 56#32
  let v1074 : BitVec 32 := Scalar.muli arg19 c56_i32_564
  let v1075 : BitVec 32 := Scalar.addi v1074 c0_i32_565
  let v1076 : Index := Scalar.indexCast v1075
  let c0_567 : Index := 0#32
  ![1, v1076.toNat, 0]
def k0_mult17 (k0_t4 : Fin k0_t4_loop.trips) : BitVec 32 :=
  let c0_i32_81 : BitVec 32 := 0#32
  let c1_i32_83 : BitVec 32 := 1#32
  let arg19 : BitVec 32 := Scf.iv c0_i32_81 c1_i32_83 k0_t4
  let c8_i32_694 : BitVec 32 := 8#32
  let v1392 : BitVec 32 := Scalar.muli arg19 c8_i32_694
  v1392
def k0_off38 (k0_t4 : Fin k0_t4_loop.trips) : Fin 2 → Nat :=
  let c0_i32_81 : BitVec 32 := 0#32
  let c1_i32_83 : BitVec 32 := 1#32
  let arg19 : BitVec 32 := Scf.iv c0_i32_81 c1_i32_83 k0_t4
  let c8_i32_694 : BitVec 32 := 8#32
  let v1392 : BitVec 32 := Scalar.muli arg19 c8_i32_694
  let v1393 : BitVec 32 := v1392
  let v1394 : Index := Scalar.indexCast v1393
  let c0_695 : Index := 0#32
  ![v1394.toNat, 0]
def k0_cond2 (i : grid0.Coords) : BitVec 1 :=
  let arg0 : BitVec 32 := BitVec.ofNat 32 (i 0).val
  let c0_i32_401 : BitVec 32 := 0#32
  let v552 : BitVec 1 := Scalar.cmpi .eq arg0 c0_i32_401
  let v553 : BitVec 32 := Scalar.extui v552
  let c0_i32_402 : BitVec 32 := 0#32
  let v554 : BitVec 1 := Scalar.cmpi .ne v553 c0_i32_402
  v554

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
abbrev S8x2048x7168 : Shape := ⟨3, ![8, 2048, 7168]⟩
abbrev S4x128 : Shape := ⟨2, ![4, 128]⟩
abbrev S4x1x128 : Shape := ⟨3, ![4, 1, 128]⟩
abbrev S128 : Shape := ⟨1, ![128]⟩
abbrev S4x32x128 : Shape := ⟨3, ![4, 32, 128]⟩
abbrev S2x8x128 : Shape := ⟨3, ![2, 8, 128]⟩
abbrev S8x2048x3584 : Shape := ⟨3, ![8, 2048, 3584]⟩
abbrev S8x2048x112 : Shape := ⟨3, ![8, 2048, 112]⟩
abbrev S8x896x256 : Shape := ⟨3, ![8, 896, 256]⟩
abbrev S8x896 : Shape := ⟨2, ![8, 896]⟩
abbrev S8 : Shape := ⟨1, ![8]⟩
abbrev S1x256x7168 : Shape := ⟨3, ![1, 256, 7168]⟩
abbrev S1x256x3584 : Shape := ⟨3, ![1, 256, 3584]⟩
abbrev S1x256x112 : Shape := ⟨3, ![1, 256, 112]⟩
abbrev S1x896x256 : Shape := ⟨3, ![1, 896, 256]⟩
abbrev S2x256x128 : Shape := ⟨3, ![2, 256, 128]⟩
abbrev S2x256x2x128 : Shape := ⟨4, ![2, 256, 2, 128]⟩
abbrev S2x256x1x128 : Shape := ⟨4, ![2, 256, 1, 128]⟩
abbrev S2x64x128 : Shape := ⟨3, ![2, 64, 128]⟩
abbrev S2x64x2x128 : Shape := ⟨4, ![2, 64, 2, 128]⟩
abbrev S2x64x1x128 : Shape := ⟨4, ![2, 64, 1, 128]⟩
abbrev S2x8x2x128 : Shape := ⟨4, ![2, 8, 2, 128]⟩
abbrev S2x8x1x128 : Shape := ⟨4, ![2, 8, 1, 128]⟩
abbrev S128x128 : Shape := ⟨2, ![128, 128]⟩
abbrev S2x128x128 : Shape := ⟨3, ![2, 128, 128]⟩
abbrev S2048x128 : Shape := ⟨2, ![2048, 128]⟩
abbrev S2x896x128 : Shape := ⟨3, ![2, 896, 128]⟩
abbrev S1x32x128 : Shape := ⟨3, ![1, 32, 128]⟩
abbrev S32x128 : Shape := ⟨2, ![32, 128]⟩
abbrev S1x8x128 : Shape := ⟨3, ![1, 8, 128]⟩
abbrev S8x128 : Shape := ⟨2, ![8, 128]⟩
abbrev S16x128 : Shape := ⟨2, ![16, 128]⟩
abbrev S1x16x128 : Shape := ⟨3, ![1, 16, 128]⟩
abbrev S64x128 : Shape := ⟨2, ![64, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S1x8x2x128 : Shape := ⟨4, ![1, 8, 2, 128]⟩
abbrev S1x8x1x128 : Shape := ⟨4, ![1, 8, 1, 128]⟩
abbrev S1x1x128 : Shape := ⟨3, ![1, 1, 128]⟩
abbrev S1x128 : Shape := ⟨2, ![1, 128]⟩
abbrev S1x1x2x128 : Shape := ⟨4, ![1, 1, 2, 128]⟩
abbrev S1x1x1x128 : Shape := ⟨4, ![1, 1, 1, 128]⟩
abbrev S16x128x1 : Shape := ⟨3, ![16, 128, 1]⟩
abbrev S32x128x1 : Shape := ⟨3, ![32, 128, 1]⟩
abbrev S1x128x128 : Shape := ⟨3, ![1, 128, 128]⟩
abbrev S16x112 : Shape := ⟨2, ![16, 112]⟩
abbrev S1x16x112 : Shape := ⟨3, ![1, 16, 112]⟩
abbrev S1 : Shape := ⟨1, ![1]⟩
abbrev S1x1x1 : Shape := ⟨3, ![1, 1, 1]⟩
abbrev S8x1 : Shape := ⟨2, ![8, 1]⟩
abbrev S8x128x1 : Shape := ⟨3, ![8, 128, 1]⟩

abbrev nBuf : Space → Nat
  | .hbm => 11
  | .vmem => 20
  | .smem => 1
  | _ => 0

abbrev bufTy : (tb : Table) → Fin (tcTables nBuf tb) → BufTy
  | .hbm, ⟨0, _⟩ => ⟨S8x2048x7168, .bf16⟩
  | .hbm, ⟨1, _⟩ => ⟨S4x128, .i32⟩
  | .hbm, ⟨2, _⟩ => ⟨S4x1x128, .i32⟩
  | .hbm, ⟨3, _⟩ => ⟨S128, .f32⟩
  | .hbm, ⟨4, _⟩ => ⟨S4x32x128, .i32⟩
  | .hbm, ⟨5, _⟩ => ⟨S2x8x128, .f32⟩
  | .hbm, ⟨6, _⟩ => ⟨S8x2048x3584, .i8⟩
  | .hbm, ⟨7, _⟩ => ⟨S8x2048x112, .f32⟩
  | .hbm, ⟨8, _⟩ => ⟨S8x896x256, .i8⟩
  | .hbm, ⟨9, _⟩ => ⟨S8x896, .f32⟩
  | .hbm, ⟨10, _⟩ => ⟨S8, .f32⟩
  | .local _ .vmem, ⟨0, _⟩ => ⟨S1x256x7168, .bf16⟩
  | .local _ .vmem, ⟨1, _⟩ => ⟨S1x256x7168, .bf16⟩
  | .local _ .vmem, ⟨2, _⟩ => ⟨S4x32x128, .i32⟩
  | .local _ .vmem, ⟨3, _⟩ => ⟨S2x8x128, .f32⟩
  | .local _ .vmem, ⟨4, _⟩ => ⟨S1x256x3584, .i8⟩
  | .local _ .vmem, ⟨5, _⟩ => ⟨S1x256x3584, .i8⟩
  | .local _ .vmem, ⟨6, _⟩ => ⟨S1x256x112, .f32⟩
  | .local _ .vmem, ⟨7, _⟩ => ⟨S1x256x112, .f32⟩
  | .local _ .vmem, ⟨8, _⟩ => ⟨S1x896x256, .i8⟩
  | .local _ .vmem, ⟨9, _⟩ => ⟨S1x896x256, .i8⟩
  | .local _ .vmem, ⟨10, _⟩ => ⟨S8x896, .f32⟩
  | .local _ .vmem, ⟨11, _⟩ => ⟨S2x256x2x128, .bf16⟩
  | .local _ .vmem, ⟨12, _⟩ => ⟨S2x64x2x128, .bf16⟩
  | .local _ .vmem, ⟨13, _⟩ => ⟨S2x8x128, .f32⟩
  | .local _ .vmem, ⟨14, _⟩ => ⟨S2x8x2x128, .bf16⟩
  | .local _ .vmem, ⟨15, _⟩ => ⟨S128x128, .i32⟩
  | .local _ .vmem, ⟨16, _⟩ => ⟨S2x128x128, .f32⟩
  | .local _ .vmem, ⟨17, _⟩ => ⟨S2048x128, .f32⟩
  | .local _ .vmem, ⟨18, _⟩ => ⟨S2x896x128, .f32⟩
  | .local _ .vmem, ⟨19, _⟩ => ⟨S128x128, .f32⟩
  | .local _ .smem, ⟨0, _⟩ => ⟨S8, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_13 : BitVec 32 := 0#32
  let c14_i32 : BitVec 32 := 14#32
  let v28 : BitVec 32 := Scalar.addi c0_i32_13 c14_i32
  let c1_i32_14 : BitVec 32 := 1#32
  ⟨c0_i32_13, v28, c1_i32_14⟩
def k0_mult1 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  v200
def k0_off1 (k0_t1 : Fin k0_t1_loop.trips) (c0_i32_73 : BitVec 32) : Fin 3 → Nat :=
  let c0_74 : Index := 0#32
  let c0_75 : Index := 0#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v203 : Index := Scalar.indexCast v202
  ![0, 0, v203.toNat]
def k0_off2 (k0_t1 : Fin k0_t1_loop.trips) (c0_i32_73 : BitVec 32) : Fin 3 → Nat :=
  let c0_76 : Index := 0#32
  let c32_77 : Index := 32#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v206 : Index := Scalar.indexCast v202
  ![0, 32, v206.toNat]
def k0_off3 (k0_t1 : Fin k0_t1_loop.trips) (c0_i32_73 : BitVec 32) : Fin 3 → Nat :=
  let c0_78 : Index := 0#32
  let c64_79 : Index := 64#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v209 : Index := Scalar.indexCast v202
  ![0, 64, v209.toNat]
def k0_off4 (k0_t1 : Fin k0_t1_loop.trips) (c0_i32_73 : BitVec 32) : Fin 3 → Nat :=
  let c0_80 : Index := 0#32
  let c96_81 : Index := 96#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v212 : Index := Scalar.indexCast v202
  ![0, 96, v212.toNat]
def k0_off5 (k0_t1 : Fin k0_t1_loop.trips) (c0_i32_73 : BitVec 32) : Fin 3 → Nat :=
  let c0_82 : Index := 0#32
  let c128_83 : Index := 128#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v215 : Index := Scalar.indexCast v202
  ![0, 128, v215.toNat]
def k0_off6 (k0_t1 : Fin k0_t1_loop.trips) (c0_i32_73 : BitVec 32) : Fin 3 → Nat :=
  let c0_84 : Index := 0#32
  let c160_85 : Index := 160#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v218 : Index := Scalar.indexCast v202
  ![0, 160, v218.toNat]
def k0_off7 (k0_t1 : Fin k0_t1_loop.trips) (c0_i32_73 : BitVec 32) : Fin 3 → Nat :=
  let c0_86 : Index := 0#32
  let c192_87 : Index := 192#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v221 : Index := Scalar.indexCast v202
  ![0, 192, v221.toNat]
def k0_off8 (k0_t1 : Fin k0_t1_loop.trips) (c0_i32_73 : BitVec 32) : Fin 3 → Nat :=
  let c0_88 : Index := 0#32
  let c224_89 : Index := 224#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v202 : BitVec 32 := Scalar.addi v201 c0_i32_73
  let v224 : Index := Scalar.indexCast v202
  ![0, 224, v224.toNat]
def k0_off9 (k0_t1 : Fin k0_t1_loop.trips) (c0_i32_152 : BitVec 32) : Fin 3 → Nat :=
  let c0_153 : Index := 0#32
  let c16_154 : Index := 16#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v327 : Index := Scalar.indexCast v326
  ![0, 16, v327.toNat]
def k0_off10 (k0_t1 : Fin k0_t1_loop.trips) (c0_i32_152 : BitVec 32) : Fin 3 → Nat :=
  let c0_155 : Index := 0#32
  let c48_156 : Index := 48#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v330 : Index := Scalar.indexCast v326
  ![0, 48, v330.toNat]
def k0_off11 (k0_t1 : Fin k0_t1_loop.trips) (c0_i32_152 : BitVec 32) : Fin 3 → Nat :=
  let c0_157 : Index := 0#32
  let c80_158 : Index := 80#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v333 : Index := Scalar.indexCast v326
  ![0, 80, v333.toNat]
def k0_off12 (k0_t1 : Fin k0_t1_loop.trips) (c0_i32_152 : BitVec 32) : Fin 3 → Nat :=
  let c0_159 : Index := 0#32
  let c112_160 : Index := 112#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v336 : Index := Scalar.indexCast v326
  ![0, 112, v336.toNat]
def k0_off13 (k0_t1 : Fin k0_t1_loop.trips) (c0_i32_152 : BitVec 32) : Fin 3 → Nat :=
  let c0_161 : Index := 0#32
  let c144_162 : Index := 144#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v339 : Index := Scalar.indexCast v326
  ![0, 144, v339.toNat]
def k0_off14 (k0_t1 : Fin k0_t1_loop.trips) (c0_i32_152 : BitVec 32) : Fin 3 → Nat :=
  let c0_163 : Index := 0#32
  let c176_164 : Index := 176#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v342 : Index := Scalar.indexCast v326
  ![0, 176, v342.toNat]
def k0_off15 (k0_t1 : Fin k0_t1_loop.trips) (c0_i32_152 : BitVec 32) : Fin 3 → Nat :=
  let c0_165 : Index := 0#32
  let c208_166 : Index := 208#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v345 : Index := Scalar.indexCast v326
  ![0, 208, v345.toNat]
def k0_off16 (k0_t1 : Fin k0_t1_loop.trips) (c0_i32_152 : BitVec 32) : Fin 3 → Nat :=
  let c0_167 : Index := 0#32
  let c240_168 : Index := 240#32
  let c0_i32_13 : BitVec 32 := 0#32
  let c1_i32_14 : BitVec 32 := 1#32
  let arg19 : BitVec 32 := Scf.iv c0_i32_13 c1_i32_14 k0_t1
  let c512_i32 : BitVec 32 := 512#32
  let v200 : BitVec 32 := Scalar.muli arg19 c512_i32
  let v201 : BitVec 32 := v200
  let v326 : BitVec 32 := Scalar.addi v201 c0_i32_152
  let v348 : Index := Scalar.indexCast v326
  ![0, 240, v348.toNat]
def k0_mult2 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c8_i32 : BitVec 32 := 8#32
  let v676 : BitVec 32 := Scalar.muli arg19 c8_i32
  v676
def k0_off17 (k0_t1 : Fin k0_t1_loop.trips) : Fin 3 → Nat :=
  let c0_359 : Index := 0#32
  let c0_i32_13 : BitVec 32 := 0#32
  let c1_i32_14 : BitVec 32 := 1#32
  let arg19 : BitVec 32 := Scf.iv c0_i32_13 c1_i32_14 k0_t1
  let c8_i32 : BitVec 32 := 8#32
  let v676 : BitVec 32 := Scalar.muli arg19 c8_i32
  let v677 : BitVec 32 := v676
  let v678 : Index := Scalar.indexCast v677
  let c0_360 : Index := 0#32
  ![0, v678.toNat, 0]
def k0_mult3 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c8_i32_516 : BitVec 32 := 8#32
  let v920 : BitVec 32 := Scalar.muli arg19 c8_i32_516
  v920
def k0_off18 (k0_t1 : Fin k0_t1_loop.trips) : Fin 3 → Nat :=
  let c1_517 : Index := 1#32
  let c0_i32_13 : BitVec 32 := 0#32
  let c1_i32_14 : BitVec 32 := 1#32
  let arg19 : BitVec 32 := Scf.iv c0_i32_13 c1_i32_14 k0_t1
  let c8_i32_516 : BitVec 32 := 8#32
  let v920 : BitVec 32 := Scalar.muli arg19 c8_i32_516
  let v921 : BitVec 32 := v920
  let v922 : Index := Scalar.indexCast v921
  let c0_518 : Index := 0#32
  ![1, v922.toNat, 0]
@[reducible] def k0_t2_loop : Scf.Loop 32 :=
  let c0_i32_526 : BitVec 32 := 0#32
  let c8_i32_527 : BitVec 32 := 8#32
  let v938 : BitVec 32 := Scalar.addi c0_i32_526 c8_i32_527
  let c1_i32_528 : BitVec 32 := 1#32
  ⟨c0_i32_526, v938, c1_i32_528⟩
def k0_off19 (k0_t2 : Fin k0_t2_loop.trips) : Fin 3 → Nat :=
  let c0_598 : Index := 0#32
  let c0_i32_526 : BitVec 32 := 0#32
  let c1_i32_528 : BitVec 32 := 1#32
  let arg20 : BitVec 32 := Scf.iv c0_i32_526 c1_i32_528 k0_t2
  let v1141 : Index := Scalar.indexCast arg20
  let c0_599 : Index := 0#32
  ![0, v1141.toNat, 0]
def k0_off20 (k0_t2 : Fin k0_t2_loop.trips) : Fin 4 → Nat :=
  let c0_600 : Index := 0#32
  let c0_i32_526 : BitVec 32 := 0#32
  let c1_i32_528 : BitVec 32 := 1#32
  let arg20 : BitVec 32 := Scf.iv c0_i32_526 c1_i32_528 k0_t2
  let v1146 : Index := Scalar.indexCast arg20
  let c0_601 : Index := 0#32
  ![0, v1146.toNat, 0, 0]
def k0_mult4 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_602 : BitVec 32 := 32#32
  let v1151 : BitVec 32 := Scalar.muli arg20 c32_i32_602
  let c0_i32_603 : BitVec 32 := 0#32
  let v1152 : BitVec 32 := Scalar.addi v1151 c0_i32_603
  v1152
def k0_off21 (k0_t2 : Fin k0_t2_loop.trips) (c0_i32_603 : BitVec 32) : Fin 4 → Nat :=
  let c0_604 : Index := 0#32
  let c0_i32_526 : BitVec 32 := 0#32
  let c1_i32_528 : BitVec 32 := 1#32
  let arg20 : BitVec 32 := Scf.iv c0_i32_526 c1_i32_528 k0_t2
  let c32_i32_602 : BitVec 32 := 32#32
  let v1151 : BitVec 32 := Scalar.muli arg20 c32_i32_602
  let v1152 : BitVec 32 := Scalar.addi v1151 c0_i32_603
  let v1153 : BitVec 32 := v1152
  let v1154 : Index := Scalar.indexCast v1153
  let c0_605 : Index := 0#32
  ![0, v1154.toNat, 0, 0]
def k0_mult5 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_612 : BitVec 32 := 32#32
  let v1186 : BitVec 32 := Scalar.muli arg20 c32_i32_612
  let c8_i32_613 : BitVec 32 := 8#32
  let v1187 : BitVec 32 := Scalar.addi v1186 c8_i32_613
  v1187
def k0_mult6 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_624 : BitVec 32 := 32#32
  let v1221 : BitVec 32 := Scalar.muli arg20 c32_i32_624
  let c16_i32_625 : BitVec 32 := 16#32
  let v1222 : BitVec 32 := Scalar.addi v1221 c16_i32_625
  v1222
def k0_mult7 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_636 : BitVec 32 := 32#32
  let v1256 : BitVec 32 := Scalar.muli arg20 c32_i32_636
  let c24_i32 : BitVec 32 := 24#32
  let v1257 : BitVec 32 := Scalar.addi v1256 c24_i32
  v1257
def k0_off22 (k0_t2 : Fin k0_t2_loop.trips) : Fin 3 → Nat :=
  let c1_649 : Index := 1#32
  let c0_i32_526 : BitVec 32 := 0#32
  let c1_i32_528 : BitVec 32 := 1#32
  let arg20 : BitVec 32 := Scf.iv c0_i32_526 c1_i32_528 k0_t2
  let v1337 : Index := Scalar.indexCast arg20
  let c0_650 : Index := 0#32
  ![1, v1337.toNat, 0]
def k0_off23 (k0_t2 : Fin k0_t2_loop.trips) : Fin 4 → Nat :=
  let c1_651 : Index := 1#32
  let c0_i32_526 : BitVec 32 := 0#32
  let c1_i32_528 : BitVec 32 := 1#32
  let arg20 : BitVec 32 := Scf.iv c0_i32_526 c1_i32_528 k0_t2
  let v1342 : Index := Scalar.indexCast arg20
  let c0_652 : Index := 0#32
  ![1, v1342.toNat, 0, 0]
def k0_mult8 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_653 : BitVec 32 := 32#32
  let v1347 : BitVec 32 := Scalar.muli arg20 c32_i32_653
  let c0_i32_654 : BitVec 32 := 0#32
  let v1348 : BitVec 32 := Scalar.addi v1347 c0_i32_654
  v1348
def k0_off24 (k0_t2 : Fin k0_t2_loop.trips) (c0_i32_654 : BitVec 32) : Fin 4 → Nat :=
  let c1_655 : Index := 1#32
  let c0_i32_526 : BitVec 32 := 0#32
  let c1_i32_528 : BitVec 32 := 1#32
  let arg20 : BitVec 32 := Scf.iv c0_i32_526 c1_i32_528 k0_t2
  let c32_i32_653 : BitVec 32 := 32#32
  let v1347 : BitVec 32 := Scalar.muli arg20 c32_i32_653
  let v1348 : BitVec 32 := Scalar.addi v1347 c0_i32_654
  let v1349 : BitVec 32 := v1348
  let v1350 : Index := Scalar.indexCast v1349
  let c0_656 : Index := 0#32
  ![1, v1350.toNat, 0, 0]
def k0_mult9 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_665 : BitVec 32 := 32#32
  let v1382 : BitVec 32 := Scalar.muli arg20 c32_i32_665
  let c8_i32_666 : BitVec 32 := 8#32
  let v1383 : BitVec 32 := Scalar.addi v1382 c8_i32_666
  v1383
def k0_mult10 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_677 : BitVec 32 := 32#32
  let v1417 : BitVec 32 := Scalar.muli arg20 c32_i32_677
  let c16_i32_678 : BitVec 32 := 16#32
  let v1418 : BitVec 32 := Scalar.addi v1417 c16_i32_678
  v1418
def k0_mult11 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c32_i32_689 : BitVec 32 := 32#32
  let v1452 : BitVec 32 := Scalar.muli arg20 c32_i32_689
  let c24_i32_690 : BitVec 32 := 24#32
  let v1453 : BitVec 32 := Scalar.addi v1452 c24_i32_690
  v1453
def k0_mult12 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c16_i32_706 : BitVec 32 := 16#32
  let v1544 : BitVec 32 := Scalar.muli arg20 c16_i32_706
  let c0_i32_707 : BitVec 32 := 0#32
  let v1545 : BitVec 32 := Scalar.addi v1544 c0_i32_707
  v1545
def k0_off25 (k0_t2 : Fin k0_t2_loop.trips) (c0_i32_707 : BitVec 32) : Fin 2 → Nat :=
  let c0_i32_526 : BitVec 32 := 0#32
  let c1_i32_528 : BitVec 32 := 1#32
  let arg20 : BitVec 32 := Scf.iv c0_i32_526 c1_i32_528 k0_t2
  let c16_i32_706 : BitVec 32 := 16#32
  let v1544 : BitVec 32 := Scalar.muli arg20 c16_i32_706
  let v1545 : BitVec 32 := Scalar.addi v1544 c0_i32_707
  let v1546 : BitVec 32 := v1545
  let v1548 : Index := Scalar.indexCast v1546
  let c0_708 : Index := 0#32
  ![v1548.toNat, 0]
def k0_mult13 (k0_t2 : Fin k0_t2_loop.trips) : BitVec 32 :=
  let c0_i32_526 : BitVec 32 := 0#32
  let c1_i32_528 : BitVec 32 := 1#32
  let arg20 : BitVec 32 := Scf.iv c0_i32_526 c1_i32_528 k0_t2
  let c16_i32_712 : BitVec 32 := 16#32
  let v1563 : BitVec 32 := Scalar.muli arg20 c16_i32_712
  let c8_i32_713 : BitVec 32 := 8#32
  let v1564 : BitVec 32 := Scalar.addi v1563 c8_i32_713
  v1564
def k0_mult14 (k0_t1 : Fin k0_t1_loop.trips) : BitVec 32 :=
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  v939
def k0_off26 (k0_t1 : Fin k0_t1_loop.trips) (c0_i32_533 : BitVec 32) : Fin 3 → Nat :=
  let c0_534 : Index := 0#32
  let c0_535 : Index := 0#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v952 : BitVec 32 := Scalar.addi v940 c0_i32_533
  let v953 : Index := Scalar.indexCast v952
  ![0, 0, v953.toNat]
def k0_off27 (k0_t1 : Fin k0_t1_loop.trips) (c0_i32_537 : BitVec 32) : Fin 3 → Nat :=
  let c0_538 : Index := 0#32
  let c32_539 : Index := 32#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v964 : BitVec 32 := Scalar.addi v940 c0_i32_537
  let v965 : Index := Scalar.indexCast v964
  ![0, 32, v965.toNat]
def k0_off28 (k0_t1 : Fin k0_t1_loop.trips) (c0_i32_541 : BitVec 32) : Fin 3 → Nat :=
  let c0_542 : Index := 0#32
  let c64_543 : Index := 64#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v976 : BitVec 32 := Scalar.addi v940 c0_i32_541
  let v977 : Index := Scalar.indexCast v976
  ![0, 64, v977.toNat]
def k0_off29 (k0_t1 : Fin k0_t1_loop.trips) (c0_i32_545 : BitVec 32) : Fin 3 → Nat :=
  let c0_546 : Index := 0#32
  let c96_547 : Index := 96#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v988 : BitVec 32 := Scalar.addi v940 c0_i32_545
  let v989 : Index := Scalar.indexCast v988
  ![0, 96, v989.toNat]
def k0_off30 (k0_t1 : Fin k0_t1_loop.trips) (c0_i32_549 : BitVec 32) : Fin 3 → Nat :=
  let c0_550 : Index := 0#32
  let c128_551 : Index := 128#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1000 : BitVec 32 := Scalar.addi v940 c0_i32_549
  let v1001 : Index := Scalar.indexCast v1000
  ![0, 128, v1001.toNat]
def k0_off31 (k0_t1 : Fin k0_t1_loop.trips) (c0_i32_553 : BitVec 32) : Fin 3 → Nat :=
  let c0_554 : Index := 0#32
  let c160_555 : Index := 160#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1012 : BitVec 32 := Scalar.addi v940 c0_i32_553
  let v1013 : Index := Scalar.indexCast v1012
  ![0, 160, v1013.toNat]
def k0_off32 (k0_t1 : Fin k0_t1_loop.trips) (c0_i32_557 : BitVec 32) : Fin 3 → Nat :=
  let c0_558 : Index := 0#32
  let c192_559 : Index := 192#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1024 : BitVec 32 := Scalar.addi v940 c0_i32_557
  let v1025 : Index := Scalar.indexCast v1024
  ![0, 192, v1025.toNat]
def k0_off33 (k0_t1 : Fin k0_t1_loop.trips) (c0_i32_561 : BitVec 32) : Fin 3 → Nat :=
  let c0_562 : Index := 0#32
  let c224_563 : Index := 224#32
  let c0_i32_13 : BitVec 32 := 0#32
  let c1_i32_14 : BitVec 32 := 1#32
  let arg19 : BitVec 32 := Scf.iv c0_i32_13 c1_i32_14 k0_t1
  let c256_i32_530 : BitVec 32 := 256#32
  let v939 : BitVec 32 := Scalar.muli arg19 c256_i32_530
  let v940 : BitVec 32 := v939
  let v1036 : BitVec 32 := Scalar.addi v940 c0_i32_561
  let v1037 : Index := Scalar.indexCast v1036
  ![0, 224, v1037.toNat]
def k0_mult15 (i : grid0.Coords) : BitVec 32 :=
  let arg1 : BitVec 32 := BitVec.ofNat 32 (i 1).val
  let c256_i32 : BitVec 32 := 256#32
  let v29 : BitVec 32 := Scalar.muli arg1 c256_i32
  v29
def k0_off34 (i : grid0.Coords) (c0_i32_22 : BitVec 32) : Fin 2 → Nat :=
  let arg1 : BitVec 32 := BitVec.ofNat 32 (i 1).val
  let c256_i32 : BitVec 32 := 256#32
  let v29 : BitVec 32 := Scalar.muli arg1 c256_i32
  let v30 : BitVec 32 := v29
  let v39 : BitVec 32 := Scalar.addi v30 c0_i32_22
  let v40 : Index := Scalar.indexCast v39
  let c0_23 : Index := 0#32
  ![v40.toNat, 0]
def k0_cond1 (i : grid0.Coords) : BitVec 1 :=
  let arg1 : BitVec 32 := BitVec.ofNat 32 (i 1).val
  let c7_i32 : BitVec 32 := 7#32
  let v197 : BitVec 1 := Scalar.cmpi .eq arg1 c7_i32
  let v198 : BitVec 32 := Scalar.extui v197
  let c0_i32_72 : BitVec 32 := 0#32
  let v199 : BitVec 1 := Scalar.cmpi .ne v198 c0_i32_72
  v199

@[reducible] def k0_t3_loop : Scf.Loop 32 :=
  let c0_i32_74 : BitVec 32 := 0#32
  let c32_i32_75 : BitVec 32 := 32#32
  let v204 : BitVec 32 := Scalar.addi c0_i32_74 c32_i32_75
  let c1_i32_76 : BitVec 32 := 1#32
  ⟨c0_i32_74, v204, c1_i32_76⟩
def k0_mult16 (k0_t3 : Fin k0_t3_loop.trips) : BitVec 32 :=
  let c0_i32_74 : BitVec 32 := 0#32
  let c1_i32_76 : BitVec 32 := 1#32
  let arg19 : BitVec 32 := Scf.iv c0_i32_74 c1_i32_76 k0_t3
  let c64_i32_527 : BitVec 32 := 64#32
  let v946 : BitVec 32 := Scalar.muli arg19 c64_i32_527
  v946
def k0_off35 (k0_t3 : Fin k0_t3_loop.trips) (c0_i32_528 : BitVec 32) : Fin 2 → Nat :=
  let c0_i32_74 : BitVec 32 := 0#32
  let c1_i32_76 : BitVec 32 := 1#32
  let arg19 : BitVec 32 := Scf.iv c0_i32_74 c1_i32_76 k0_t3
  let c64_i32_527 : BitVec 32 := 64#32
  let v946 : BitVec 32 := Scalar.muli arg19 c64_i32_527
  let v947 : BitVec 32 := v946
  let v948 : BitVec 32 := Scalar.addi v947 c0_i32_528
  let v949 : Index := Scalar.indexCast v948
  let c0_529 : Index := 0#32
  ![v949.toNat, 0]
def k0_off36 (i : grid0.Coords) : Fin 1 → Nat :=
  let arg0 : BitVec 32 := BitVec.ofNat 32 (i 0).val
  let v213 : Index := Scalar.indexCast arg0
  ![v213.toNat]
@[reducible] def k0_t4_loop : Scf.Loop 32 :=
  let c0_i32_81 : BitVec 32 := 0#32
  let c16_i32_82 : BitVec 32 := 16#32
  let v215 : BitVec 32 := Scalar.addi c0_i32_81 c16_i32_82
  let c1_i32_83 : BitVec 32 := 1#32
  ⟨c0_i32_81, v215, c1_i32_83⟩
def k0_off37 (k0_t4 : Fin k0_t4_loop.trips) (c0_i32_528 : BitVec 32) : Fin 2 → Nat :=
  let c0_i32_81 : BitVec 32 := 0#32
  let c1_i32_83 : BitVec 32 := 1#32
  let arg19 : BitVec 32 := Scf.iv c0_i32_81 c1_i32_83 k0_t4
  let c128_i32_527 : BitVec 32 := 128#32
  let v946 : BitVec 32 := Scalar.muli arg19 c128_i32_527
  let v947 : BitVec 32 := Scalar.addi v946 c0_i32_528
  let v948 : Index := Scalar.indexCast v947
  let c0_529 : Index := 0#32
  ![v948.toNat, 0]
def k0_off38 (k0_t4 : Fin k0_t4_loop.trips) (c0_i32_559 : BitVec 32) : Fin 3 → Nat :=
  let c0_560 : Index := 0#32
  let c0_i32_81 : BitVec 32 := 0#32
  let c1_i32_83 : BitVec 32 := 1#32
  let arg19 : BitVec 32 := Scf.iv c0_i32_81 c1_i32_83 k0_t4
  let c56_i32 : BitVec 32 := 56#32
  let v1059 : BitVec 32 := Scalar.muli arg19 c56_i32
  let v1060 : BitVec 32 := Scalar.addi v1059 c0_i32_559
  let v1061 : Index := Scalar.indexCast v1060
  let c0_561 : Index := 0#32
  ![0, v1061.toNat, 0]
def k0_off39 (k0_t4 : Fin k0_t4_loop.trips) (c0_i32_565 : BitVec 32) : Fin 3 → Nat :=
  let c1_566 : Index := 1#32
  let c0_i32_81 : BitVec 32 := 0#32
  let c1_i32_83 : BitVec 32 := 1#32
  let arg19 : BitVec 32 := Scf.iv c0_i32_81 c1_i32_83 k0_t4
  let c56_i32_564 : BitVec 32 := 56#32
  let v1074 : BitVec 32 := Scalar.muli arg19 c56_i32_564
  let v1075 : BitVec 32 := Scalar.addi v1074 c0_i32_565
  let v1076 : Index := Scalar.indexCast v1075
  let c0_567 : Index := 0#32
  ![1, v1076.toNat, 0]
def k0_mult17 (k0_t4 : Fin k0_t4_loop.trips) : BitVec 32 :=
  let c0_i32_81 : BitVec 32 := 0#32
  let c1_i32_83 : BitVec 32 := 1#32
  let arg19 : BitVec 32 := Scf.iv c0_i32_81 c1_i32_83 k0_t4
  let c8_i32_694 : BitVec 32 := 8#32
  let v1392 : BitVec 32 := Scalar.muli arg19 c8_i32_694
  v1392
def k0_off40 (k0_t4 : Fin k0_t4_loop.trips) : Fin 2 → Nat :=
  let c0_i32_81 : BitVec 32 := 0#32
  let c1_i32_83 : BitVec 32 := 1#32
  let arg19 : BitVec 32 := Scf.iv c0_i32_81 c1_i32_83 k0_t4
  let c8_i32_694 : BitVec 32 := 8#32
  let v1392 : BitVec 32 := Scalar.muli arg19 c8_i32_694
  let v1393 : BitVec 32 := v1392
  let v1394 : Index := Scalar.indexCast v1393
  let c0_695 : Index := 0#32
  ![v1394.toNat, 0]
def k0_cond2 (i : grid0.Coords) : BitVec 1 :=
  let arg0 : BitVec 32 := BitVec.ofNat 32 (i 0).val
  let c0_i32_401 : BitVec 32 := 0#32
  let v552 : BitVec 1 := Scalar.cmpi .eq arg0 c0_i32_401
  let v553 : BitVec 32 := Scalar.extui v552
  let c0_i32_402 : BitVec 32 := 0#32
  let v554 : BitVec 1 := Scalar.cmpi .ne v553 c0_i32_402
  v554

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3584 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x896x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8x2048x7168 : Shape := ⟨3, ![8, 2048, 7168]⟩
abbrev S15 : Shape := ⟨1, ![15]⟩
abbrev S8x2048x112x64 : Shape := ⟨4, ![8, 2048, 112, 64]⟩
abbrev S_ : Shape := ⟨0, ![]⟩
abbrev S8x2048x112 : Shape := ⟨3, ![8, 2048, 112]⟩
abbrev S8x2048x112x1 : Shape := ⟨4, ![8, 2048, 112, 1]⟩
abbrev S8x2048x3584x2 : Shape := ⟨4, ![8, 2048, 3584, 2]⟩
abbrev S8x2048x3584x2x1 : Shape := ⟨5, ![8, 2048, 3584, 2, 1]⟩
abbrev S1x1x1x1x15 : Shape := ⟨5, ![1, 1, 1, 1, 15]⟩
abbrev S8x2048x3584x2x15 : Shape := ⟨5, ![8, 2048, 3584, 2, 15]⟩
abbrev S8x2048x3584x1 : Shape := ⟨4, ![8, 2048, 3584, 1]⟩
abbrev S8x2048x3584 : Shape := ⟨3, ![8, 2048, 3584]⟩
abbrev S8 : Shape := ⟨1, ![8]⟩
abbrev S8x1x1 : Shape := ⟨3, ![8, 1, 1]⟩
abbrev S8x896x256 : Shape := ⟨3, ![8, 896, 256]⟩
abbrev S8x896 : Shape := ⟨2, ![8, 896]⟩
abbrev S8x896x1 : Shape := ⟨3, ![8, 896, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x7168, .bf16⟩
  | .hbm, ⟨1, _⟩ => ⟨S15, .f32⟩
  | .hbm, ⟨2, _⟩ => ⟨S8x2048x7168, .f32⟩
  | .hbm, ⟨3, _⟩ => ⟨S8x2048x112x64, .f32⟩
  | .hbm, ⟨4, _⟩ => ⟨S8x2048x112x64, .f32⟩
  | .hbm, ⟨5, _⟩ => ⟨S_, .f32⟩
  | .hbm, ⟨6, _⟩ => ⟨S8x2048x112, .f32⟩
  | .hbm, ⟨7, _⟩ => ⟨S_, .f32⟩
  | .hbm, ⟨8, _⟩ => ⟨S8x2048x112, .f32⟩
  | .hbm, ⟨9, _⟩ => ⟨S8x2048x112, .i1⟩
  | .hbm, ⟨10, _⟩ => ⟨S_, .f32⟩
  | .hbm, ⟨11, _⟩ => ⟨S8x2048x112, .f32⟩
  | .hbm, ⟨12, _⟩ => ⟨S8x2048x112, .f32⟩
  | .hbm, ⟨13, _⟩ => ⟨S_, .f32⟩
  | .hbm, ⟨14, _⟩ => ⟨S8x2048x112, .f32⟩
  | .hbm, ⟨15, _⟩ => ⟨S8x2048x112, .f32⟩
  | .hbm, ⟨16, _⟩ => ⟨S8x2048x112x1, .f32⟩
  | .hbm, ⟨17, _⟩ => ⟨S8x2048x112x64, .f32⟩
  | .hbm, ⟨18, _⟩ => ⟨S8x2048x112x64, .f32⟩
  | .hbm, ⟨19, _⟩ => ⟨S8x2048x3584x2, .f32⟩
  | .hbm, ⟨20, _⟩ => ⟨S8x2048x3584x2x1, .f32⟩
  | .hbm, ⟨21, _⟩ => ⟨S1x1x1x1x15, .f32⟩
  | .hbm, ⟨22, _⟩ => ⟨S8x2048x3584x2x15, .f32⟩
  | .hbm, ⟨23, _⟩ => ⟨S8x2048x3584x2x15, .f32⟩
  | .hbm, ⟨24, _⟩ => ⟨S8x2048x3584x2x15, .i1⟩
  | .hbm, ⟨25, _⟩ => ⟨S8x2048x3584x2x15, .i32⟩
  | .hbm, ⟨26, _⟩ => ⟨S_, .i32⟩
  | .hbm, ⟨27, _⟩ => ⟨S8x2048x3584x2, .i32⟩
  | .hbm, ⟨28, _⟩ => ⟨S8x2048x3584x1, .i32⟩
  | .hbm, ⟨29, _⟩ => ⟨S8x2048x3584, .i32⟩
  | .hbm, ⟨30, _⟩ => ⟨S_, .i32⟩
  | .hbm, ⟨31, _⟩ => ⟨S8x2048x3584, .i32⟩
  | .hbm, ⟨32, _⟩ => ⟨S8x2048x3584, .i32⟩
  | .hbm, ⟨33, _⟩ => ⟨S8x2048x3584x1, .i32⟩
  | .hbm, ⟨34, _⟩ => ⟨S8x2048x3584, .i32⟩
  | .hbm, ⟨35, _⟩ => ⟨S8x2048x3584, .i32⟩
  | .hbm, ⟨36, _⟩ => ⟨S8x2048x3584, .i8⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8x1x1, .f32⟩
  | .hbm, ⟨43, _⟩ => ⟨S8x2048x112, .f32⟩
  | .hbm, ⟨44, _⟩ => ⟨S8x2048x112, .f32⟩
  | .hbm, ⟨45, _⟩ => ⟨S8x896x256, .f32⟩
  | .hbm, ⟨46, _⟩ => ⟨S8x896x256, .f32⟩
  | .hbm, ⟨47, _⟩ => ⟨S_, .f32⟩
  | .hbm, ⟨48, _⟩ => ⟨S8x896, .f32⟩
  | .hbm, ⟨49, _⟩ => ⟨S_, .f32⟩
  | .hbm, ⟨50, _⟩ => ⟨S8x896, .f32⟩
  | .hbm, ⟨51, _⟩ => ⟨S8x896, .f32⟩
  | .hbm, ⟨52, _⟩ => ⟨S8x896x1, .f32⟩
  | .hbm, ⟨53, _⟩ => ⟨S8x896x256, .f32⟩
  | .hbm, ⟨54, _⟩ => ⟨S8x896x256, .f32⟩
  | .hbm, ⟨55, _⟩ => ⟨S8x896x256, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S8x896x256, .f32⟩
  | .hbm, ⟨60, _⟩ => ⟨S8x896x256, .f32⟩
  | .hbm, ⟨61, _⟩ => ⟨S_, .f32⟩
  | .hbm, ⟨62, _⟩ => ⟨S8x896x256, .f32⟩
  | .hbm, ⟨63, _⟩ => ⟨S8x896x256, .f32⟩
  | .hbm, ⟨64, _⟩ => ⟨S8x896x256, .i32⟩
  | .hbm, ⟨65, _⟩ => ⟨S8x896x256, .i8⟩
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst_0 : Ref sig .tc := ⟨.hbm, 5, rfl⟩
abbrev main_v0_1 : Ref sig .tc := ⟨.hbm, 6, rfl⟩
abbrev main_call0_cst_1 : Ref sig .tc := ⟨.hbm, 7, rfl⟩
abbrev main_call0_v4 : Ref sig .tc := ⟨.hbm, 8, rfl⟩
abbrev main_call0_v5 : Ref sig .tc := ⟨.hbm, 9, rfl⟩
abbrev main_call0_cst_2 : Ref sig .tc := ⟨.hbm, 10, rfl⟩
abbrev main_call0_call0_v0 : Ref sig .tc := ⟨.hbm, 11, rfl⟩
abbrev main_call0_v6 : Ref sig .tc := ⟨.hbm, 12, rfl⟩
abbrev main_call0_cst_3 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_c : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_c_4 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_v0_0 : Ref sig .tc := ⟨.hbm, 36, rfl⟩
abbrev main_call0_cst_5 : Ref sig .tc := ⟨.hbm, 37, rfl⟩
abbrev main_call0_v28 : Ref sig .tc := ⟨.hbm, 38, rfl⟩
abbrev main_call0_cst_6 : Ref sig .tc := ⟨.hbm, 39, rfl⟩
abbrev main_call0_v29 : Ref sig .tc := ⟨.hbm, 40, rfl⟩
abbrev main_v0_4 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_cst_7 : Ref sig .tc := ⟨.hbm, 47, rfl⟩
abbrev main_call0_v36 : Ref sig .tc := ⟨.hbm, 48, rfl⟩
abbrev main_call0_cst_8 : Ref sig .tc := ⟨.hbm, 49, rfl⟩
abbrev main_call0_v37 : Ref sig .tc := ⟨.hbm, 50, rfl⟩
abbrev main_v0_3 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_c_9 : Ref sig .tc := ⟨.hbm, 56, rfl⟩
abbrev main_call0_c_10 : Ref sig .tc := ⟨.hbm, 57, rfl⟩
abbrev main_call0_call2_v0 : Ref sig .tc := ⟨.hbm, 58, rfl⟩
abbrev main_call0_call2_v1 : Ref sig .tc := ⟨.hbm, 59, rfl⟩
abbrev main_call0_call2_v2 : Ref sig .tc := ⟨.hbm, 60, rfl⟩
abbrev main_call0_call2_v3 : Ref sig .tc := ⟨.hbm, 61, rfl⟩
abbrev main_call0_call2_v4 : Ref sig .tc := ⟨.hbm, 62, rfl⟩
abbrev main_call0_v43 : Ref sig .tc := ⟨.hbm, 63, rfl⟩
abbrev main_call0_v44 : Ref sig .tc := ⟨.hbm, 64, rfl⟩
abbrev main_v0_2 : Ref sig .tc := ⟨.hbm, 65, rfl⟩

abbrev nD : Nat := 1
abbrev τ : Topo := Topo.v7x

variable {F : FTy → Type} [FloatOps F]
-- ==== Proof.LoopsK.lean ====
/- The two general loops of the program: the chunk loop and the group loop of the second level, every buffer written held at some contents. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Frame

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option warn.classDefReducibility false

/-- The loop `k0_t4`, each buffer its trips write at some contents. -/
@[sl_loop] def loopInv_k0_t4 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (arg0 : BitVec 32) (k0_h1 : k0_cond1 i = 1#1) (v200 : IVec S8x128 32) (v205 : FVec F S8x128 .f32) (X_arg16 : BufTy.Contents (Elt F) arg16.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h1 v200 v205 where
  inv := fun k acc => iprop((arg16.view.loc (c : Thread nD τ) ↦[arg16.view.set]{fullShare} X_arg16) ∗ (∃ f, (arg17.view.loc (c : Thread nD τ) ↦[arg17.view.set]{fullShare} f)) ∗ (∃ f, (arg18.view.loc (c : Thread nD τ) ↦[arg18.view.set]{fullShare} f)))
  step k acc := by
    have hk := Nat.lt_of_lt_of_le k.isLt k0_t4_abs.2.1
    iintro ⟨HR_arg16, ⟨%f_arg17, HW_arg17⟩, ⟨%f_arg18, HW_arg18⟩⟩
    unfold k0_t4_body
    sl_exec
    sl_step
    isplitl [HR_arg16]; · iexact HR_arg16
    isplitl [HW_arg17]; · iexists _; iexact HW_arg17
    iexists _; iexact HW_arg18

/-- The loop `k0_t1`, each buffer its trips write at some contents. -/
@[sl_loop] def loopInv_k0_t1 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (v0 : Vec F S1x32x128 .i32) (v2 : Vec F S1x32x128 .i32) (v4 : Vec F S1x8x128 .f32) (v6 : Vec F S1x8x128 .f32) (X_arg2 : BufTy.Contents (Elt F) arg2.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 where
  inv := fun k acc => iprop((arg2.view.loc (c : Thread nD τ) ↦[arg2.view.set]{fullShare} X_arg2) ∗ (∃ f, (arg5.view.loc (c : Thread nD τ) ↦[arg5.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step k acc := by
    have hk := Nat.lt_of_lt_of_le k.isLt k0_t1_abs.2.1
    iintro ⟨HR_arg2, ⟨%f_arg5, HW_arg5⟩, ⟨%f_arg10, HW_arg10⟩, ⟨%f_arg11, HW_arg11⟩, ⟨%f_arg12, HW_arg12⟩, ⟨%f_arg13, HW_arg13⟩, ⟨%f_arg14, HW_arg14⟩, ⟨%f_arg15, HW_arg15⟩⟩
    unfold k0_t1_body
    sl_exec
    sl_step
    isplitl [HR_arg2]; · iexact HR_arg2
    isplitl [HW_arg5]; · iexists _; iexact HW_arg5
    isplitl [HW_arg10]; · iexists _; iexact HW_arg10
    isplitl [HW_arg11]; · iexists _; iexact HW_arg11
    isplitl [HW_arg12]; · iexists _; iexact HW_arg12
    isplitl [HW_arg13]; · iexists _; iexact HW_arg13
    isplitl [HW_arg14]; · iexists _; iexact HW_arg14
    iexists _; iexact HW_arg15

end Cert.Kernel.Hand

end
-- ==== Proof.FrameK.lean ====
/- The body of the program run once at a grid point, every buffer at some contents, and the frame of the program from it. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Frame
public import proofs.«01_k».proof.Proof.LoopsK
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

set_option maxHeartbeats 16000000 in
/-- The body from every buffer at some contents to its return, every buffer at some contents. -/
theorem kernelRun (c : Dev nD) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (O : sProp 𝕄) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O) -∗ K ⟨⟩))
      ⊢ wp frame (wpE (defs₀ (F := F)) Variants.none c none) Set.univ (cc0_nf4_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_nf4_quant_eq_skeleton]; unfold cc0_nf4_quant_skel
  unfold owns
  iintro ⟨⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, ⟨%d_arg15, %f_arg15, -, H_arg15⟩, ⟨%d_arg16, %f_arg16, -, H_arg16⟩, ⟨%d_arg17, %f_arg17, -, H_arg17⟩, ⟨%d_arg18, %f_arg18, -, H_arg18⟩, HO, Hk⟩
  by_cases h1 : k0_cond1 i = 1#1
  · by_cases h2 : k0_cond2 i = 1#1
    · sl_exec
      sl_step
      iapply Hk
      isplitl [H_arg2]
      · iexists _, _; isplitr; swap; · iexact H_arg2
        ipureintro; rfl
      isplitl [H_arg3]
      · iexists _, _; isplitr; swap; · iexact H_arg3
        ipureintro; rfl
      isplitl [H_arg4]
      · iexists _, _; isplitr; swap; · iexact H_arg4
        ipureintro; rfl
      isplitl [H_arg5]
      · iexists _, _; isplitr; swap; · iexact H_arg5
        ipureintro; rfl
      isplitl [H_arg6]
      · iexists _, _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
    · sl_exec
      sl_step
      iapply Hk
      isplitl [H_arg2]
      · iexists _, _; isplitr; swap; · iexact H_arg2
        ipureintro; rfl
      isplitl [H_arg3]
      · iexists _, _; isplitr; swap; · iexact H_arg3
        ipureintro; rfl
      isplitl [H_arg4]
      · iexists _, _; isplitr; swap; · iexact H_arg4
        ipureintro; rfl
      isplitl [H_arg5]
      · iexists _, _; isplitr; swap; · iexact H_arg5
        ipureintro; rfl
      isplitl [H_arg6]
      · iexists _, _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
  · sl_exec
    sl_step
    iapply Hk
    isplitl [H_arg2]
    · iexists _, _; isplitr; swap; · iexact H_arg2
      ipureintro; rfl
    isplitl [H_arg3]
    · iexists _, _; isplitr; swap; · iexact H_arg3
      ipureintro; rfl
    isplitl [H_arg4]
    · iexists _, _; isplitr; swap; · iexact H_arg4
      ipureintro; rfl
    isplitl [H_arg5]
    · iexists _, _; isplitr; swap; · iexact H_arg5
      ipureintro; rfl
    isplitl [H_arg6]
    · iexists _, _; isplitr; swap; · iexact H_arg6
      ipureintro; rfl
    isplitl [H_arg7]
    · iexists _, _; isplitr; swap; · iexact H_arg7
      ipureintro; rfl
    isplitl [H_arg8]
    · iexists _, _; isplitr; swap; · iexact H_arg8
      ipureintro; rfl
    isplitl [H_arg9]
    · iexists _, _; isplitr; swap; · iexact H_arg9
      ipureintro; rfl
    isplitl [H_arg10]
    · iexists _, _; isplitr; swap; · iexact H_arg10
      ipureintro; rfl
    isplitl [H_arg11]
    · iexists _, _; isplitr; swap; · iexact H_arg11
      ipureintro; rfl
    isplitl [H_arg12]
    · iexists _, _; isplitr; swap; · iexact H_arg12
      ipureintro; rfl
    isplitl [H_arg13]
    · iexists _, _; isplitr; swap; · iexact H_arg13
      ipureintro; rfl
    isplitl [H_arg14]
    · iexists _, _; isplitr; swap; · iexact H_arg14
      ipureintro; rfl
    isplitl [H_arg15]
    · iexists _, _; isplitr; swap; · iexact H_arg15
      ipureintro; rfl
    isplitl [H_arg16]
    · iexists _, _; isplitr; swap; · iexact H_arg16
      ipureintro; rfl
    isplitl [H_arg17]
    · iexists _, _; isplitr; swap; · iexact H_arg17
      ipureintro; rfl
    isplitl [H_arg18]
    · iexists _, _; isplitr; swap; · iexact H_arg18
      ipureintro; rfl
    iexact HO

/-- Window 0's staging memref at the point. -/
abbrev ms0 (t : Fin cfg0.N) := win0_0.stage (cfg0.slots t 0)
/-- It is a whole buffer. -/
abbrev hs0 (t : Fin cfg0.N) : (ms0 t).IsWhole := hstage0_0 ((cfg0.slots t 0).cast nbuf0_0)
/-- Window 1's staging memref at the point. -/
abbrev ms1 (t : Fin cfg0.N) := win0_1.stage (cfg0.slots t 1)
/-- It is a whole buffer. -/
abbrev hs1 (t : Fin cfg0.N) : (ms1 t).IsWhole := hstage0_1 ((cfg0.slots t 1).cast nbuf0_1)
/-- Window 2's staging memref at the point. -/
abbrev ms2 (t : Fin cfg0.N) := win0_2.stage (cfg0.slots t 2)
/-- It is a whole buffer. -/
abbrev hs2 (t : Fin cfg0.N) : (ms2 t).IsWhole := hstage0_2 ((cfg0.slots t 2).cast nbuf0_2)
/-- Window 3's staging memref at the point. -/
abbrev ms3 (t : Fin cfg0.N) := win0_3.stage (cfg0.slots t 3)
/-- It is a whole buffer. -/
abbrev hs3 (t : Fin cfg0.N) : (ms3 t).IsWhole := hstage0_3 ((cfg0.slots t 3).cast nbuf0_3)
/-- Window 4's staging memref at the point. -/
abbrev ms4 (t : Fin cfg0.N) := win0_4.stage (cfg0.slots t 4)
/-- It is a whole buffer. -/
abbrev hs4 (t : Fin cfg0.N) : (ms4 t).IsWhole := hstage0_4 ((cfg0.slots t 4).cast nbuf0_4)
/-- Window 5's staging memref at the point. -/
abbrev ms5 (t : Fin cfg0.N) := win0_5.stage (cfg0.slots t 5)
/-- It is a whole buffer. -/
abbrev hs5 (t : Fin cfg0.N) : (ms5 t).IsWhole := hstage0_5 ((cfg0.slots t 5).cast nbuf0_5)
/-- Window 6's staging memref at the point. -/
abbrev ms6 (t : Fin cfg0.N) := win0_6.stage (cfg0.slots t 6)
/-- It is a whole buffer. -/
abbrev hs6 (t : Fin cfg0.N) : (ms6 t).IsWhole := hstage0_6 ((cfg0.slots t 6).cast nbuf0_6)
/-- Window 7's staging memref at the point. -/
abbrev ms7 (t : Fin cfg0.N) := win0_7.stage (cfg0.slots t 7)
/-- It is a whole buffer. -/
abbrev hs7 (t : Fin cfg0.N) : (ms7 t).IsWhole := hstage0_7 ((cfg0.slots t 7).cast nbuf0_7)

/-- The scratch at some contents each, and the generator register. -/
theorem Phi_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA
  rw [scopedRest0_eq]; simp only [owns_whole]; try rfl

/-- The proof data: every window at anything. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7))
/-- What it returns. -/
def bodyPost (c : Dev nD) (t : Fin cfg0.N) : sProp 𝕄 :=
  iprop((rdat m c).Φ t.succ ∗ (rdat m c).owesAt () t.succ ∗ (∃ X, ⌜True⌝ ∗ owns (c : Thread nD τ) (ms0 t) fullShare X) ∗ (∃ X, ⌜True⌝ ∗ owns (c : Thread nD τ) (ms1 t) fullShare X) ∗ (∃ X, ⌜True⌝ ∗ owns (c : Thread nD τ) (ms2 t) fullShare X) ∗ (∃ X, ⌜True⌝ ∗ owns (c : Thread nD τ) (ms3 t) fullShare X) ∗ (∃ X, ⌜True⌝ ∗ owns (c : Thread nD τ) (ms4 t) fullShare X) ∗ (∃ X, ⌜True⌝ ∗ owns (c : Thread nD τ) (ms5 t) fullShare X) ∗ (∃ X, ⌜True⌝ ∗ owns (c : Thread nD τ) (ms6 t) fullShare X) ∗ (∃ X, ⌜True⌝ ∗ owns (c : Thread nD τ) (ms7 t) fullShare X))

set_option maxHeartbeats 16000000 in
/-- The body at the point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, Phi_eq]
  iintro ⟨⟨⟨S0, S1, S2, S3, S4, S5, S6, S7, S8⟩, Hg⟩, HO, W0, W1, W2, W3, W4, W5, W6, W7⟩
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) _ _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [HO]; · iexact HO
  iintro ⟨⟨%X0, W0⟩, ⟨%X1, W1⟩, ⟨%X2, W2⟩, ⟨%X3, W3⟩, ⟨%X4, W4⟩, ⟨%X5, W5⟩, ⟨%X6, W6⟩, ⟨%X7, W7⟩, S0, S1, S2, S3, S4, S5, S6, S7, S8, HO⟩
  isplitl [S0 S1 S2 S3 S4 S5 S6 S7 S8 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [W0]
  · iexists _; isplitr; swap; · iexact W0
    ipureintro; trivial
  isplitl [W1]
  · iexists _; isplitr; swap; · iexact W1
    ipureintro; trivial
  isplitl [W2]
  · iexists _; isplitr; swap; · iexact W2
    ipureintro; trivial
  isplitl [W3]
  · iexists _; isplitr; swap; · iexact W3
    ipureintro; trivial
  isplitl [W4]
  · iexists _; isplitr; swap; · iexact W4
    ipureintro; trivial
  isplitl [W5]
  · iexists _; isplitr; swap; · iexact W5
    ipureintro; trivial
  isplitl [W6]
  · iexists _; isplitr; swap; · iexact W6
    ipureintro; trivial
  iexists _; isplitr; swap; · iexact W7
  ipureintro; trivial

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    (rdat m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The program runs from any memory with zero counters, its argument ends unchanged and every counter reads zero. -/
theorem run_main :
    θ_run defs (onTc (τ := τ) (main (F := F))) (s₀ m ρ)
      (fun r => (∀ c : Dev nD, r.2.mem ((c.tc : Thread nD τ).loc main_arg0) = m ((c.tc : Thread nD τ).loc main_arg0))
        ∧ r.2.sem = fun _ => 0) :=
  RDat.θ_run_frame cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hΦ := fun _ _ => rfl) (Q' := _)
    (hQ' := fun r h => ⟨fun c => (h.1.arr_in c 0 rfl).trans (V_main_arg0 m c), h.2⟩)

end Cert.Kernel.Hand

end
-- ==== Proof.LoopsI.lean ====
/- The general loops of the program: the chunk loop, the packing loop inside it and the group loop of the second level, every buffer written held at some contents. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false

/-- The loop `k0_t4`, each buffer its trips write at some contents. -/
@[sl_loop] def loopInv_k0_t4 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (arg0 : BitVec 32) (k0_h1 : k0_cond1 i = 1#1) (v200 : IVec S8x128 32) (v205 : FVec F S8x128 .f32) (X_arg16 : BufTy.Contents (Elt F) arg16.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h1 v200 v205 where
  inv := fun k acc => iprop((arg16.view.loc (c : Thread nD τ) ↦[arg16.view.set]{fullShare} X_arg16) ∗ (∃ f, (arg17.view.loc (c : Thread nD τ) ↦[arg17.view.set]{fullShare} f)) ∗ (∃ f, (arg18.view.loc (c : Thread nD τ) ↦[arg18.view.set]{fullShare} f)))
  step k acc := by
    have hk := Nat.lt_of_lt_of_le k.isLt k0_t4_abs.2.1
    iintro ⟨HR_arg16, ⟨%f_arg17, HW_arg17⟩, ⟨%f_arg18, HW_arg18⟩⟩
    unfold k0_t4_body
    sl_exec
    sl_step
    isplitl [HR_arg16]; · iexact HR_arg16
    isplitl [HW_arg17]; · iexists _; iexact HW_arg17
    iexists _; iexact HW_arg18

/-- The packing loop `k0_t2`, its table at some contents. -/
@[sl_loop] def loopInv_k0_t2 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (v1 : IVec S32x128 32) (v3 : IVec S32x128 32) (v8 : FVec F S16x128 .f32) (v27 : IVec S32x128 1) (k0_t1 : Fin k0_t1_loop.trips) (arg19 : BitVec 32) (v916 : FVec F S8x128 .f32) (v927 : IVec S8x128 1) (cst_520 : F .f32) (X_arg10 : BufTy.Contents (Elt F) arg10.view.ty) (X_arg12 : BufTy.Contents (Elt F) arg12.view.ty) (X_arg13 : BufTy.Contents (Elt F) arg13.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v8 v27 k0_t1 arg19 v916 v927 cst_520 where
  inv := fun k acc => iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (∃ f, (arg14.view.loc (c : Thread nD τ) ↦[arg14.view.set]{fullShare} f)))
  step k acc := by
    have hk := Nat.lt_of_lt_of_le k.isLt k0_t2_abs.2.1
    iintro ⟨HR_arg10, HR_arg12, HR_arg13, ⟨%f_arg14, HW_arg14⟩⟩
    unfold k0_t2_body
    sl_exec
    sl_step
    isplitl [HR_arg10]; · iexact HR_arg10
    isplitl [HR_arg12]; · iexact HR_arg12
    isplitl [HR_arg13]; · iexact HR_arg13
    iexists _; iexact HW_arg14

/-- The loop `k0_t1`, each buffer its trips write at some contents. -/
@[sl_loop] def loopInv_k0_t1 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (v0 : Vec F S1x32x128 .i32) (v2 : Vec F S1x32x128 .i32) (v4 : Vec F S1x8x128 .f32) (v6 : Vec F S1x8x128 .f32) (X_arg2 : BufTy.Contents (Elt F) arg2.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 where
  inv := fun k acc => iprop((arg2.view.loc (c : Thread nD τ) ↦[arg2.view.set]{fullShare} X_arg2) ∗ (∃ f, (arg5.view.loc (c : Thread nD τ) ↦[arg5.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step k acc := by
    have hk := Nat.lt_of_lt_of_le k.isLt k0_t1_abs.2.1
    iintro ⟨HR_arg2, ⟨%f_arg5, HW_arg5⟩, ⟨%f_arg10, HW_arg10⟩, ⟨%f_arg11, HW_arg11⟩, ⟨%f_arg12, HW_arg12⟩, ⟨%f_arg13, HW_arg13⟩, ⟨%f_arg14, HW_arg14⟩, ⟨%f_arg15, HW_arg15⟩⟩
    unfold k0_t1_body
    sl_exec
    sl_step
    isplitl [HR_arg2]; · iexact HR_arg2
    isplitl [HW_arg5]; · iexists _; iexact HW_arg5
    isplitl [HW_arg10]; · iexists _; iexact HW_arg10
    isplitl [HW_arg11]; · iexists _; iexact HW_arg11
    isplitl [HW_arg12]; · iexists _; iexact HW_arg12
    isplitl [HW_arg13]; · iexists _; iexact HW_arg13
    isplitl [HW_arg14]; · iexists _; iexact HW_arg14
    iexists _; iexact HW_arg15

end Cert.KernelIdeal.Hand

end
-- ==== Proof.FrameI.lean ====
/- The body of the program run once at a grid point, every buffer at some contents, and the frame of the program from it. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.LoopsI
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

open Idealize.ShloMosaic.Pipeline (RDat)

variable (m : (ℓ : Loc nD τ sig) → Buf (Elt F) ℓ) (ρ : Dev nD → PrngReg)

set_option maxHeartbeats 16000000 in
/-- The body from every buffer at some contents to its return, every buffer at some contents. -/
theorem kernelRun (c : Dev nD) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (O : sProp 𝕄) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O) -∗ K ⟨⟩))
      ⊢ wp frame (wpE (defs₀ (F := F)) Variants.none c none) Set.univ (cc0_nf4_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_nf4_quant_eq_skeleton]; unfold cc0_nf4_quant_skel
  unfold owns
  iintro ⟨⟨%d_arg2, %f_arg2, -, H_arg2⟩, ⟨%d_arg3, %f_arg3, -, H_arg3⟩, ⟨%d_arg4, %f_arg4, -, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, ⟨%d_arg15, %f_arg15, -, H_arg15⟩, ⟨%d_arg16, %f_arg16, -, H_arg16⟩, ⟨%d_arg17, %f_arg17, -, H_arg17⟩, ⟨%d_arg18, %f_arg18, -, H_arg18⟩, HO, Hk⟩
  by_cases h1 : k0_cond1 i = 1#1
  · by_cases h2 : k0_cond2 i = 1#1
    · sl_exec
      sl_step
      iapply Hk
      isplitl [H_arg2]
      · iexists _, _; isplitr; swap; · iexact H_arg2
        ipureintro; rfl
      isplitl [H_arg3]
      · iexists _, _; isplitr; swap; · iexact H_arg3
        ipureintro; rfl
      isplitl [H_arg4]
      · iexists _, _; isplitr; swap; · iexact H_arg4
        ipureintro; rfl
      isplitl [H_arg5]
      · iexists _, _; isplitr; swap; · iexact H_arg5
        ipureintro; rfl
      isplitl [H_arg6]
      · iexists _, _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
    · sl_exec
      sl_step
      iapply Hk
      isplitl [H_arg2]
      · iexists _, _; isplitr; swap; · iexact H_arg2
        ipureintro; rfl
      isplitl [H_arg3]
      · iexists _, _; isplitr; swap; · iexact H_arg3
        ipureintro; rfl
      isplitl [H_arg4]
      · iexists _, _; isplitr; swap; · iexact H_arg4
        ipureintro; rfl
      isplitl [H_arg5]
      · iexists _, _; isplitr; swap; · iexact H_arg5
        ipureintro; rfl
      isplitl [H_arg6]
      · iexists _, _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
  · sl_exec
    sl_step
    iapply Hk
    isplitl [H_arg2]
    · iexists _, _; isplitr; swap; · iexact H_arg2
      ipureintro; rfl
    isplitl [H_arg3]
    · iexists _, _; isplitr; swap; · iexact H_arg3
      ipureintro; rfl
    isplitl [H_arg4]
    · iexists _, _; isplitr; swap; · iexact H_arg4
      ipureintro; rfl
    isplitl [H_arg5]
    · iexists _, _; isplitr; swap; · iexact H_arg5
      ipureintro; rfl
    isplitl [H_arg6]
    · iexists _, _; isplitr; swap; · iexact H_arg6
      ipureintro; rfl
    isplitl [H_arg7]
    · iexists _, _; isplitr; swap; · iexact H_arg7
      ipureintro; rfl
    isplitl [H_arg8]
    · iexists _, _; isplitr; swap; · iexact H_arg8
      ipureintro; rfl
    isplitl [H_arg9]
    · iexists _, _; isplitr; swap; · iexact H_arg9
      ipureintro; rfl
    isplitl [H_arg10]
    · iexists _, _; isplitr; swap; · iexact H_arg10
      ipureintro; rfl
    isplitl [H_arg11]
    · iexists _, _; isplitr; swap; · iexact H_arg11
      ipureintro; rfl
    isplitl [H_arg12]
    · iexists _, _; isplitr; swap; · iexact H_arg12
      ipureintro; rfl
    isplitl [H_arg13]
    · iexists _, _; isplitr; swap; · iexact H_arg13
      ipureintro; rfl
    isplitl [H_arg14]
    · iexists _, _; isplitr; swap; · iexact H_arg14
      ipureintro; rfl
    isplitl [H_arg15]
    · iexists _, _; isplitr; swap; · iexact H_arg15
      ipureintro; rfl
    isplitl [H_arg16]
    · iexists _, _; isplitr; swap; · iexact H_arg16
      ipureintro; rfl
    isplitl [H_arg17]
    · iexists _, _; isplitr; swap; · iexact H_arg17
      ipureintro; rfl
    isplitl [H_arg18]
    · iexists _, _; isplitr; swap; · iexact H_arg18
      ipureintro; rfl
    iexact HO

/-- Window 0's staging memref at the point. -/
abbrev ms0 (t : Fin cfg0.N) := win0_0.stage (cfg0.slots t 0)
/-- It is a whole buffer. -/
abbrev hs0 (t : Fin cfg0.N) : (ms0 t).IsWhole := hstage0_0 ((cfg0.slots t 0).cast nbuf0_0)
/-- Window 1's staging memref at the point. -/
abbrev ms1 (t : Fin cfg0.N) := win0_1.stage (cfg0.slots t 1)
/-- It is a whole buffer. -/
abbrev hs1 (t : Fin cfg0.N) : (ms1 t).IsWhole := hstage0_1 ((cfg0.slots t 1).cast nbuf0_1)
/-- Window 2's staging memref at the point. -/
abbrev ms2 (t : Fin cfg0.N) := win0_2.stage (cfg0.slots t 2)
/-- It is a whole buffer. -/
abbrev hs2 (t : Fin cfg0.N) : (ms2 t).IsWhole := hstage0_2 ((cfg0.slots t 2).cast nbuf0_2)
/-- Window 3's staging memref at the point. -/
abbrev ms3 (t : Fin cfg0.N) := win0_3.stage (cfg0.slots t 3)
/-- It is a whole buffer. -/
abbrev hs3 (t : Fin cfg0.N) : (ms3 t).IsWhole := hstage0_3 ((cfg0.slots t 3).cast nbuf0_3)
/-- Window 4's staging memref at the point. -/
abbrev ms4 (t : Fin cfg0.N) := win0_4.stage (cfg0.slots t 4)
/-- It is a whole buffer. -/
abbrev hs4 (t : Fin cfg0.N) : (ms4 t).IsWhole := hstage0_4 ((cfg0.slots t 4).cast nbuf0_4)
/-- Window 5's staging memref at the point. -/
abbrev ms5 (t : Fin cfg0.N) := win0_5.stage (cfg0.slots t 5)
/-- It is a whole buffer. -/
abbrev hs5 (t : Fin cfg0.N) : (ms5 t).IsWhole := hstage0_5 ((cfg0.slots t 5).cast nbuf0_5)
/-- Window 6's staging memref at the point. -/
abbrev ms6 (t : Fin cfg0.N) := win0_6.stage (cfg0.slots t 6)
/-- It is a whole buffer. -/
abbrev hs6 (t : Fin cfg0.N) : (ms6 t).IsWhole := hstage0_6 ((cfg0.slots t 6).cast nbuf0_6)
/-- Window 7's staging memref at the point. -/
abbrev ms7 (t : Fin cfg0.N) := win0_7.stage (cfg0.slots t 7)
/-- It is a whole buffer. -/
abbrev hs7 (t : Fin cfg0.N) : (ms7 t).IsWhole := hstage0_7 ((cfg0.slots t 7).cast nbuf0_7)

/-- The scratch at some contents each, and the generator register. -/
theorem Phi_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA
  rw [scopedRest0_eq]; simp only [owns_whole]; try rfl

/-- The proof data: every window at anything. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7))
/-- What it returns. -/
def bodyPost (c : Dev nD) (t : Fin cfg0.N) : sProp 𝕄 :=
  iprop((rdat m c).Φ t.succ ∗ (rdat m c).owesAt () t.succ ∗ (∃ X, ⌜True⌝ ∗ owns (c : Thread nD τ) (ms0 t) fullShare X) ∗ (∃ X, ⌜True⌝ ∗ owns (c : Thread nD τ) (ms1 t) fullShare X) ∗ (∃ X, ⌜True⌝ ∗ owns (c : Thread nD τ) (ms2 t) fullShare X) ∗ (∃ X, ⌜True⌝ ∗ owns (c : Thread nD τ) (ms3 t) fullShare X) ∗ (∃ X, ⌜True⌝ ∗ owns (c : Thread nD τ) (ms4 t) fullShare X) ∗ (∃ X, ⌜True⌝ ∗ owns (c : Thread nD τ) (ms5 t) fullShare X) ∗ (∃ X, ⌜True⌝ ∗ owns (c : Thread nD τ) (ms6 t) fullShare X) ∗ (∃ X, ⌜True⌝ ∗ owns (c : Thread nD τ) (ms7 t) fullShare X))

set_option maxHeartbeats 16000000 in
/-- The body at the point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, Phi_eq]
  iintro ⟨⟨⟨S0, S1, S2, S3, S4, S5, S6, S7, S8⟩, Hg⟩, HO, W0, W1, W2, W3, W4, W5, W6, W7⟩
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) _ _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [HO]; · iexact HO
  iintro ⟨⟨%X0, W0⟩, ⟨%X1, W1⟩, ⟨%X2, W2⟩, ⟨%X3, W3⟩, ⟨%X4, W4⟩, ⟨%X5, W5⟩, ⟨%X6, W6⟩, ⟨%X7, W7⟩, S0, S1, S2, S3, S4, S5, S6, S7, S8, HO⟩
  isplitl [S0 S1 S2 S3 S4 S5 S6 S7 S8 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [W0]
  · iexists _; isplitr; swap; · iexact W0
    ipureintro; trivial
  isplitl [W1]
  · iexists _; isplitr; swap; · iexact W1
    ipureintro; trivial
  isplitl [W2]
  · iexists _; isplitr; swap; · iexact W2
    ipureintro; trivial
  isplitl [W3]
  · iexists _; isplitr; swap; · iexact W3
    ipureintro; trivial
  isplitl [W4]
  · iexists _; isplitr; swap; · iexact W4
    ipureintro; trivial
  isplitl [W5]
  · iexists _; isplitr; swap; · iexact W5
    ipureintro; trivial
  isplitl [W6]
  · iexists _; isplitr; swap; · iexact W6
    ipureintro; trivial
  iexists _; isplitr; swap; · iexact W7
  ipureintro; trivial

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    (rdat m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The program runs from any memory with zero counters, its argument ends unchanged and every counter reads zero. -/
theorem run_main :
    θ_run defs (onTc (τ := τ) (main (F := F))) (s₀ m ρ)
      (fun r => (∀ c : Dev nD, r.2.mem ((c.tc : Thread nD τ).loc main_arg0) = m ((c.tc : Thread nD τ).loc main_arg0))
        ∧ r.2.sem = fun _ => 0) :=
  RDat.θ_run_frame cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hΦ := fun _ _ => rfl) (Q' := _)
    (hQ' := fun r h => ⟨fun c => (h.1.arr_in c 0 rfl).trans (V_main_arg0 m c), h.2⟩)

end Cert.KernelIdeal.Hand

end
-- ==== Proof.Pure1.lean ====
/- What the payloads of the chunk loop's first half compute, read at an index: the transposed tile, the block maxima, the scale's inverse. -/
module

public import proofs.«01_k».proof.Proof.Gen.KernelIdeal
public import proofs.«01_k».proof.Proof.Gen.KernelIdeal.Skeleton
public import Idealize.ShloMosaic.Lib.Pointwise

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL.Sem

/-- The weight block at row `r`, column `q`, as a function of natural numbers. -/
def wN (W : S1x256x7168.Idx → EReal) (r q : ℕ) : EReal :=
  if h : r < 256 ∧ q < 7168 then W (ix3 0 ⟨r, h.1⟩ ⟨q, h.2⟩) else 0

theorem wN_of (W : S1x256x7168.Idx → EReal) (r q : ℕ) (j : S1x256x7168.Idx) (h1 : (j 1).val = r) (h2 : (j 2).val = q) :
    W j = wN W r q := by
  have e1 : (j 1).val < 256 := (j 1).isLt
  have e2 : (j 2).val < 7168 := (j 2).isLt
  subst h1 h2
  unfold wN
  rw [dif_pos ⟨e1, e2⟩]
  congr 1
  funext a
  match a with
  | ⟨0, _⟩ => exact Fin.ext (by have : (j 0).val < 1 := (j 0).isLt; show (j 0).val = 0; omega)
  | ⟨1, _⟩ => rfl
  | ⟨2, _⟩ => rfl

theorem pay61_at (v : Fin 8 → FVec Ideal S1x16x128 .bf16) (s : Fin 64) (p : Fin 2) (L : Fin 128) :
    k0_pay61 (F := Ideal) (v 0) (v 1) (v 2) (v 3) (v 4) (v 5) (v 6) (v 7) (ix4 0 s p L)
      = v ⟨L / 16, by omega⟩ (ix3 0 ⟨L % 16, by omega⟩ ⟨2 * s + p, by omega⟩) := by
  have hh : ∀ (g g' : Fin 8) (a a' : Fin 16) (b b' : Fin 128), g = g' → a = a' → b = b' →
      v g (ix3 0 a b) = v g' (ix3 0 a' b') := by
    rintro g _ a _ b _ rfl rfl rfl; rfl
  pointwise [k0_pay61]
  split_ifs
  all_goals
    apply hh <;> apply Fin.ext <;> simp only [Fin.isValue, Fin.val_zero, Fin.val_one, Fin.val_ofNat] <;> omega

theorem xt_piece (W : S1x256x7168.Idx → EReal) (v : Fin 8 → FVec Ideal S1x16x128 .bf16) (r0 c0 : ℕ)
    (hv : ∀ (g : Fin 8) (a : Fin 16) (b : Fin 128), v g (ix3 0 a b) = wN W (32 * g + r0 + a) (c0 + b))
    (s : Fin 64) (p : Fin 2) (L : Fin 128) :
    k0_pay61 (F := Ideal) (v 0) (v 1) (v 2) (v 3) (v 4) (v 5) (v 6) (v 7) (ix4 0 s p L)
      = wN W (L / 16 * 32 + r0 + L % 16) (c0 + 2 * s + p) := by
  rw [pay61_at, hv]
  congr 1
  · dsimp only; omega
  · dsimp only; omega

/-- The maximum of four absolute values, bracketed as the kernel does. -/
def abs4 (f : ℕ → EReal) : EReal := max (max (max (max (f 0) (-f 0)) (max (f 1) (-f 1))) (max (f 2) (-f 2))) (max (f 3) (-f 3))

theorem part_piece (a b c d : FVec Ideal S1x8x2x128 .bf16) (s : Fin 8) (p : Fin 2) (L : Fin 128) (f : ℕ → EReal)
    (ha : a (ix4 0 s p L) = f 0) (hb : b (ix4 0 s p L) = f 1) (hc : c (ix4 0 s p L) = f 2) (hd : d (ix4 0 s p L) = f 3) :
    k0_pay71 (F := Ideal) (k0_pay70 a) b c d (ix4 0 s p L) = abs4 f := by
  pointwise [k0_pay71, k0_pay70]
  rcases p with ⟨p, hp⟩
  rcases s with ⟨s, hs⟩
  unfold abs4
  rw [← ha, ← hb, ← hc, ← hd]
  have e0 : 2 * s / 2 = s := by omega
  have e1 : (2 * s + 1) / 2 = s := by omega
  interval_cases p
  · simp [e0]; rfl
  · simp [e1, Nat.add_mod]; rfl

/-- The maximum of eight values, bracketed as the kernel does. -/
def max8 (f : ℕ → EReal) : EReal := max (max (max (max (max (max (max (f 0) (f 1)) (f 2)) (f 3)) (f 4)) (f 5)) (f 6)) (f 7)

/-- A block's largest absolute value. -/
def amax (f : ℕ → EReal) : EReal := (Finset.univ : Finset (Fin 64)).fold max ⊥ fun c : Fin 64 => max (f (c : ℕ)) (-f (c : ℕ))

theorem abs4_le (f : ℕ → EReal) (A : EReal) (h : ∀ i < 4, max (f i) (-f i) ≤ A) : abs4 f ≤ A :=
  max_le (max_le (max_le (h 0 (by omega)) (h 1 (by omega))) (h 2 (by omega))) (h 3 (by omega))

theorem le_abs4 (f : ℕ → EReal) (i : ℕ) (h : i < 4) : max (f i) (-f i) ≤ abs4 f := by
  unfold abs4
  interval_cases i
  · exact le_max_of_le_left (le_max_of_le_left (le_max_left _ _))
  · exact le_max_of_le_left (le_max_of_le_left (le_max_right _ _))
  · exact le_max_of_le_left (le_max_right _ _)
  · exact le_max_right _ _

theorem max8_le (f : ℕ → EReal) (A : EReal) (h : ∀ i < 8, f i ≤ A) : max8 f ≤ A :=
  max_le (max_le (max_le (max_le (max_le (max_le (max_le (h 0 (by omega)) (h 1 (by omega))) (h 2 (by omega))) (h 3 (by omega)))
    (h 4 (by omega))) (h 5 (by omega))) (h 6 (by omega))) (h 7 (by omega))

theorem le_max8 (f : ℕ → EReal) (i : ℕ) (h : i < 8) : f i ≤ max8 f := by
  unfold max8
  interval_cases i <;> simp only [le_max_iff, le_refl, true_or, or_true]

/-- The kernel's tree of maxima over a block is the block's largest absolute value. -/
theorem tree_eq_amax (f : ℕ → EReal) :
    max (max8 fun s => abs4 fun i => f (16 * i + 2 * s + 0)) (max8 fun s => abs4 fun i => f (16 * i + 2 * s + 1)) = amax f := by
  have hle : ∀ c < 64, max (f c) (-f c) ≤ amax f := fun c hc =>
    (Finset.le_fold_max _).2 (Or.inr ⟨⟨c, hc⟩, Finset.mem_univ _, le_refl _⟩)
  apply le_antisymm
  · exact max_le (max8_le _ _ fun s hs => abs4_le _ _ fun i hi => hle _ (by omega))
      (max8_le _ _ fun s hs => abs4_le _ _ fun i hi => hle _ (by omega))
  · refine (Finset.fold_max_le _).2 ⟨bot_le, fun c _ => ?_⟩
    rcases c with ⟨c, hc⟩
    dsimp only
    by_cases he : c % 2 = 0
    · refine le_trans ?_ (le_max_left _ _)
      refine le_trans ?_ (le_max8 _ (c % 16 / 2) (by omega))
      refine le_trans ?_ (le_abs4 _ (c / 16) (by omega))
      have : 16 * (c / 16) + 2 * (c % 16 / 2) + 0 = c := by omega
      simp only [this, le_refl]
    · refine le_trans ?_ (le_max_right _ _)
      refine le_trans ?_ (le_max8 _ (c % 16 / 2) (by omega))
      refine le_trans ?_ (le_abs4 _ (c / 16) (by omega))
      have : 16 * (c / 16) + 2 * (c % 16 / 2) + 1 = c := by omega
      simp only [this, le_refl]

theorem am_piece (r : Fin 8 → FVec Ideal S1x8x2x128 .bf16) (j : Fin 8) (L : Fin 128) (g : ℕ → ℕ → EReal)
    (h : ∀ (s : Fin 8) (p : Fin 2), r s (ix4 0 j p L) = g s p) :
    k0_pay95 (F := Ideal) (k0_pay92 (r 0) (r 1) (r 2)) (k0_pay93 (r 3)) (k0_pay94 (r 3)) (r 4) (r 5) (r 6) (r 7) (ix2 j L)
      = max (max8 fun s => g s 0) (max8 fun s => g s 1) := by
  pointwise [k0_pay95, k0_pay92, k0_pay93, k0_pay94]
  rcases j with ⟨j, hj⟩
  have e0 : 2 * j / 2 = j := by omega
  have e1 : (2 * j + 1) / 2 = j := by omega
  have e2 : (2 * j) % 2 = 0 := by omega
  have e3 : ¬ (2 * j + 1) % 2 = 0 := by omega
  simp only [e2, e3, if_true, if_false, e0, e1, h]
  rfl

/-- The scale's inverse of a block whose largest absolute value is `a`. -/
def invOf (a : EReal) : EReal := Ideal.ofBits .f32 0x4118CCCD#32 * Ideal.div 1 (if a = 0 then 1 else a)

theorem inv_piece (a : FVec Ideal S8x128 .f32) (j : Fin 8) (p : Fin 2) (L : Fin 128) :
    k0_pay98 (F := Ideal) a (ix4 0 j p L) = invOf (a (ix2 j L)) := by
  pointwise [k0_pay98]
  rw [ite_self]
  rfl

theorem pay96_at (a : FVec Ideal S8x128 .f32) (j : Fin 8) (L : Fin 128) :
    k0_pay97 (F := Ideal) a (ix3 0 j L) = a (ix2 j L) := by
  pointwise [k0_pay97]

/-! Each stored transpose is one and the same payload of its eight loads. -/

theorem xt_form0 (v0 v1 v2 v3 v4 v5 v6 v7 : FVec Ideal S1x16x128 .bf16) :
    k0_pay60 (F := Ideal) (k0_pay58 v0 v1 v2 v3 v4 v5 v6 v7) (k0_pay59 v0 v1 v2 v3 v4 v5 v6 v7) = k0_pay61 v0 v1 v2 v3 v4 v5 v6 v7 := rfl

theorem xt_form62 (v0 v1 v2 v3 v4 v5 v6 v7 : FVec Ideal S1x16x128 .bf16) :
    k0_pay62 (F := Ideal) v0 v1 v2 v3 v4 v5 v6 v7 = k0_pay61 v0 v1 v2 v3 v4 v5 v6 v7 := rfl

theorem xt_form63 (v0 v1 v2 v3 v4 v5 v6 v7 : FVec Ideal S1x16x128 .bf16) :
    k0_pay63 (F := Ideal) v0 v1 v2 v3 v4 v5 v6 v7 = k0_pay61 v0 v1 v2 v3 v4 v5 v6 v7 := rfl

theorem xt_form64 (v0 v1 v2 v3 v4 v5 v6 v7 : FVec Ideal S1x16x128 .bf16) :
    k0_pay64 (F := Ideal) v0 v1 v2 v3 v4 v5 v6 v7 = k0_pay61 v0 v1 v2 v3 v4 v5 v6 v7 := rfl

theorem xt_form65 (v0 v1 v2 v3 v4 v5 v6 v7 : FVec Ideal S1x16x128 .bf16) :
    k0_pay65 (F := Ideal) v0 v1 v2 v3 v4 v5 v6 v7 = k0_pay61 v0 v1 v2 v3 v4 v5 v6 v7 := rfl

theorem xt_form67 (v0 v1 v2 v3 v4 v5 v6 v7 : FVec Ideal S1x16x128 .bf16) :
    k0_pay67 (F := Ideal) (k0_pay66 v0) v1 v2 v3 v4 v5 v6 v7 = k0_pay61 v0 v1 v2 v3 v4 v5 v6 v7 := rfl

theorem xt_form69 (v0 v1 v2 v3 v4 v5 v6 v7 : FVec Ideal S1x16x128 .bf16) :
    k0_pay69 (F := Ideal) (k0_pay68 v0) v1 v2 v3 v4 v5 v6 v7 = k0_pay61 v0 v1 v2 v3 v4 v5 v6 v7 := rfl

/-! Each stored partial maximum is one and the same payload of its four loads. -/

theorem part_form74 (a b c d : FVec Ideal S1x8x2x128 .bf16) :
    k0_pay74 (F := Ideal) (k0_pay72 a) b (k0_pay73 b) c d = k0_pay71 (k0_pay70 a) b c d := rfl

theorem part_form78 (a b c d : FVec Ideal S1x8x2x128 .bf16) :
    k0_pay78 (F := Ideal) (k0_pay75 a) (k0_pay76 b) (k0_pay77 b) c d = k0_pay71 (k0_pay70 a) b c d := rfl

theorem part_form80 (a b c d : FVec Ideal S1x8x2x128 .bf16) :
    k0_pay80 (F := Ideal) (k0_pay79 a b) c d = k0_pay71 (k0_pay70 a) b c d := rfl

theorem part_form82 (a b c d : FVec Ideal S1x8x2x128 .bf16) :
    k0_pay82 (F := Ideal) (k0_pay81 a b) c d = k0_pay71 (k0_pay70 a) b c d := rfl

theorem part_form86 (a b c d : FVec Ideal S1x8x2x128 .bf16) :
    k0_pay86 (F := Ideal) (k0_pay83 a b) (k0_pay84 c) (k0_pay85 c) d = k0_pay71 (k0_pay70 a) b c d := rfl

theorem part_form89 (a b c d : FVec Ideal S1x8x2x128 .bf16) :
    k0_pay89 (F := Ideal) (k0_pay87 a b) (k0_pay88 c) d = k0_pay71 (k0_pay70 a) b c d := rfl

theorem part_form91 (a b c d : FVec Ideal S1x8x2x128 .bf16) :
    k0_pay91 (F := Ideal) (k0_pay90 a b c) d = k0_pay71 (k0_pay70 a) b c d := rfl

theorem part_form100 (a b c d : FVec Ideal S1x8x2x128 .bf16) :
    k0_pay100 (F := Ideal) (k0_pay99 a b) c d = k0_pay71 (k0_pay70 a) b c d := rfl

theorem part_form104 (a b c d : FVec Ideal S1x8x2x128 .bf16) :
    k0_pay104 (F := Ideal) (k0_pay101 a b) (k0_pay102 c) (k0_pay103 c) d = k0_pay71 (k0_pay70 a) b c d := rfl

theorem part_form107 (a b c d : FVec Ideal S1x8x2x128 .bf16) :
    k0_pay107 (F := Ideal) (k0_pay105 a b) (k0_pay106 c) d = k0_pay71 (k0_pay70 a) b c d := rfl

theorem part_form109 (a b c d : FVec Ideal S1x8x2x128 .bf16) :
    k0_pay109 (F := Ideal) (k0_pay108 a b c) d = k0_pay71 (k0_pay70 a) b c d := rfl

theorem part_form112 (a b c d : FVec Ideal S1x8x2x128 .bf16) :
    k0_pay112 (F := Ideal) (k0_pay110 a b c) d (k0_pay111 d) = k0_pay71 (k0_pay70 a) b c d := rfl

theorem part_form116 (a b c d : FVec Ideal S1x8x2x128 .bf16) :
    k0_pay116 (F := Ideal) (k0_pay113 a b c) (k0_pay114 d) (k0_pay115 d) = k0_pay71 (k0_pay70 a) b c d := rfl

theorem part_form118 (a b c d : FVec Ideal S1x8x2x128 .bf16) :
    k0_pay118 (F := Ideal) (k0_pay117 a b c d) = k0_pay71 (k0_pay70 a) b c d := rfl

theorem part_form122 (a b c d : FVec Ideal S1x8x2x128 .bf16) :
    k0_pay122 (F := Ideal) (k0_pay120 a b c d) (k0_pay121 a b c d) = k0_pay71 (k0_pay70 a) b c d := rfl

/-! The second half's block maxima are the first half's payload of its own loads. -/

theorem am_form96 (r0 r1 r2 r3 r4 r5 r6 r7 : FVec Ideal S1x8x2x128 .bf16) :
    k0_pay96 (F := Ideal) (k0_pay92 r0 r1 r2) (k0_pay93 r3) (k0_pay94 r3) r4 r5 r6 r7 = k0_pay97 (k0_pay95 (k0_pay92 r0 r1 r2) (k0_pay93 r3) (k0_pay94 r3) r4 r5 r6 r7) := rfl

theorem am_form124 (r0 r1 r2 r3 r4 r5 r6 r7 : FVec Ideal S1x8x2x128 .bf16) :
    k0_pay124 (F := Ideal) (k0_pay123 r0 r1 r2 r3 r4) r5 r6 r7 = k0_pay95 (k0_pay92 r0 r1 r2) (k0_pay93 r3) (k0_pay94 r3) r4 r5 r6 r7 := rfl

theorem am_form125 (r0 r1 r2 r3 r4 r5 r6 r7 : FVec Ideal S1x8x2x128 .bf16) :
    k0_pay125 (F := Ideal) (k0_pay123 r0 r1 r2 r3 r4) r5 r6 r7 = k0_pay97 (k0_pay95 (k0_pay92 r0 r1 r2) (k0_pay93 r3) (k0_pay94 r3) r4 r5 r6 r7) := rfl

theorem am_form126 (r0 r1 r2 r3 r4 r5 r6 r7 : FVec Ideal S1x8x2x128 .bf16) :
    k0_pay126 (F := Ideal) (k0_pay123 r0 r1 r2 r3 r4) r5 r6 r7 = k0_pay97 (k0_pay95 (k0_pay92 r0 r1 r2) (k0_pay93 r3) (k0_pay94 r3) r4 r5 r6 r7) := rfl

theorem inv_form128 (r0 r1 r2 r3 r4 r5 r6 r7 : FVec Ideal S1x8x2x128 .bf16) :
    k0_pay128 (F := Ideal) (k0_pay124 (k0_pay123 r0 r1 r2 r3 r4) r5 r6 r7) (k0_pay127 (F := Ideal) (k0_pay123 r0 r1 r2 r3 r4) r5 r6 r7) (Scalar.ofBits .f32 0x3F800000#32) = k0_pay98 (k0_pay95 (k0_pay92 r0 r1 r2) (k0_pay93 r3) (k0_pay94 r3) r4 r5 r6 r7) := rfl

end Cert.KernelIdeal.Hand

end
-- ==== Proof.Pure2.lean ====
/- What one trip of the chunk loop stores, as a function of the block of the input: the pieces of each scratch buffer read at an index. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

public import Idealize.ShloMosaic.Lib.Pointwise
public import proofs.«01_k».proof.Proof.Pure1
@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option warn.classDefReducibility false

theorem load_w (v : View sig .tc .vmem S1x256x7168 .bf16) (X : v.ty.Contents (Elt Ideal)) (off : Fin 3 → ℕ)
    (inb : ∀ a, off a + S1x16x128.size a ≤ S1x256x7168.size a) (r0 c0 : ℕ) (h : off = ![0, r0, c0]) (a : Fin 16) (q : Fin 128) :
    v.readAt (Elt Ideal) (Rect.unit (s := S1x256x7168) off S1x16x128.size inb).toLoadRect X (ix3 0 a q)
      = wN (v.read (Elt Ideal) X) (r0 + a) (c0 + q) := by
  subst h
  refine wN_of _ _ _ _ ?_ ?_
  · show r0 + 1 * a.val = r0 + a.val; omega
  · show c0 + 1 * q.val = c0 + q.val; omega

/-- The transposed tile's element: half `t`, word row `s`, parity `p`, lane `L` of chunk `k`. -/
def xtN (W : S1x256x7168.Idx → EReal) (k t s p L : ℕ) : EReal := wN W (L / 16 * 32 + 16 * t + L % 16) (512 * k + 2 * s + p)

def xtG (W : S1x256x7168.Idx → EReal) (k : ℕ) (y : S2x256x2x128.Idx) : Elt Ideal .bf16 := xtN W k (y 0) (y 1) (y 2) (y 3)

theorem xt_at0 (v : View sig .tc .vmem S1x256x7168 .bf16) (X : v.ty.Contents (Elt Ideal)) (k : Fin k0_t1_loop.trips) (r : Fin 4)
    (P : Vec Ideal S1x64x2x128 .bf16) (hP : P = k0_pay61 (F := Ideal)
      (v.readAt (Elt Ideal) (Rect.unit (s := S1x256x7168) (k0_off1 k (BitVec.ofNat 32 (128 * r.val))) S1x16x128.size (k0_off1_inb k r)).toLoadRect X)
      (v.readAt (Elt Ideal) (Rect.unit (s := S1x256x7168) (k0_off2 k (BitVec.ofNat 32 (128 * r.val))) S1x16x128.size (k0_off2_inb k r)).toLoadRect X)
      (v.readAt (Elt Ideal) (Rect.unit (s := S1x256x7168) (k0_off3 k (BitVec.ofNat 32 (128 * r.val))) S1x16x128.size (k0_off3_inb k r)).toLoadRect X)
      (v.readAt (Elt Ideal) (Rect.unit (s := S1x256x7168) (k0_off4 k (BitVec.ofNat 32 (128 * r.val))) S1x16x128.size (k0_off4_inb k r)).toLoadRect X)
      (v.readAt (Elt Ideal) (Rect.unit (s := S1x256x7168) (k0_off5 k (BitVec.ofNat 32 (128 * r.val))) S1x16x128.size (k0_off5_inb k r)).toLoadRect X)
      (v.readAt (Elt Ideal) (Rect.unit (s := S1x256x7168) (k0_off6 k (BitVec.ofNat 32 (128 * r.val))) S1x16x128.size (k0_off6_inb k r)).toLoadRect X)
      (v.readAt (Elt Ideal) (Rect.unit (s := S1x256x7168) (k0_off7 k (BitVec.ofNat 32 (128 * r.val))) S1x16x128.size (k0_off7_inb k r)).toLoadRect X)
      (v.readAt (Elt Ideal) (Rect.unit (s := S1x256x7168) (k0_off8 k (BitVec.ofNat 32 (128 * r.val))) S1x16x128.size (k0_off8_inb k r)).toLoadRect X))
    (z : Fin 1) (s : Fin 64) (p : Fin 2) (L : Fin 128) : P (ix4 z s p L) = xtN (v.read (Elt Ideal) X) k 0 (64 * r.val + s.val) p L := by
  subst hP
  obtain rfl : z = 0 := Subsingleton.elim _ _
  refine (xt_piece (v.read (Elt Ideal) X) ![_, _, _, _, _, _, _, _] 0 (512 * k.val + 128 * r.val) ?_ s p L).trans ?_
  · intro g a b; fin_cases g
    · exact load_w v X _ _ _ _ (k0_off1_eq k r) a b
    · exact load_w v X _ _ _ _ (k0_off2_eq k r) a b
    · exact load_w v X _ _ _ _ (k0_off3_eq k r) a b
    · exact load_w v X _ _ _ _ (k0_off4_eq k r) a b
    · exact load_w v X _ _ _ _ (k0_off5_eq k r) a b
    · exact load_w v X _ _ _ _ (k0_off6_eq k r) a b
    · exact load_w v X _ _ _ _ (k0_off7_eq k r) a b
    · exact load_w v X _ _ _ _ (k0_off8_eq k r) a b
  · unfold xtN; congr 1; omega

theorem xt_at1 (v : View sig .tc .vmem S1x256x7168 .bf16) (X : v.ty.Contents (Elt Ideal)) (k : Fin k0_t1_loop.trips) (r : Fin 4)
    (P : Vec Ideal S1x64x2x128 .bf16) (hP : P = k0_pay61 (F := Ideal)
      (v.readAt (Elt Ideal) (Rect.unit (s := S1x256x7168) (k0_off9 k (BitVec.ofNat 32 (128 * r.val))) S1x16x128.size (k0_off9_inb k r)).toLoadRect X)
      (v.readAt (Elt Ideal) (Rect.unit (s := S1x256x7168) (k0_off10 k (BitVec.ofNat 32 (128 * r.val))) S1x16x128.size (k0_off10_inb k r)).toLoadRect X)
      (v.readAt (Elt Ideal) (Rect.unit (s := S1x256x7168) (k0_off11 k (BitVec.ofNat 32 (128 * r.val))) S1x16x128.size (k0_off11_inb k r)).toLoadRect X)
      (v.readAt (Elt Ideal) (Rect.unit (s := S1x256x7168) (k0_off12 k (BitVec.ofNat 32 (128 * r.val))) S1x16x128.size (k0_off12_inb k r)).toLoadRect X)
      (v.readAt (Elt Ideal) (Rect.unit (s := S1x256x7168) (k0_off13 k (BitVec.ofNat 32 (128 * r.val))) S1x16x128.size (k0_off13_inb k r)).toLoadRect X)
      (v.readAt (Elt Ideal) (Rect.unit (s := S1x256x7168) (k0_off14 k (BitVec.ofNat 32 (128 * r.val))) S1x16x128.size (k0_off14_inb k r)).toLoadRect X)
      (v.readAt (Elt Ideal) (Rect.unit (s := S1x256x7168) (k0_off15 k (BitVec.ofNat 32 (128 * r.val))) S1x16x128.size (k0_off15_inb k r)).toLoadRect X)
      (v.readAt (Elt Ideal) (Rect.unit (s := S1x256x7168) (k0_off16 k (BitVec.ofNat 32 (128 * r.val))) S1x16x128.size (k0_off16_inb k r)).toLoadRect X))
    (z : Fin 1) (s : Fin 64) (p : Fin 2) (L : Fin 128) : P (ix4 z s p L) = xtN (v.read (Elt Ideal) X) k 1 (64 * r.val + s.val) p L := by
  subst hP
  obtain rfl : z = 0 := Subsingleton.elim _ _
  refine (xt_piece (v.read (Elt Ideal) X) ![_, _, _, _, _, _, _, _] 16 (512 * k.val + 128 * r.val) ?_ s p L).trans ?_
  · intro g a b; fin_cases g
    · exact load_w v X _ _ _ _ (k0_off9_eq k r) a b
    · exact load_w v X _ _ _ _ (k0_off10_eq k r) a b
    · exact load_w v X _ _ _ _ (k0_off11_eq k r) a b
    · exact load_w v X _ _ _ _ (k0_off12_eq k r) a b
    · exact load_w v X _ _ _ _ (k0_off13_eq k r) a b
    · exact load_w v X _ _ _ _ (k0_off14_eq k r) a b
    · exact load_w v X _ _ _ _ (k0_off15_eq k r) a b
    · exact load_w v X _ _ _ _ (k0_off16_eq k r) a b
  · unfold xtN; congr 1; omega

theorem xtG_emb (W : S1x256x7168.Idx → EReal) (k t r : ℕ) (inb) (x0 : Fin 1) (x1 : Fin 64) (x2 : Fin 2) (x3 : Fin 128) :
    xtN W k t (64 * r + x1.val) x2 x3 = xtG W k ((Rect.unit (s := S2x256x2x128) ![t, 64 * r, 0, 0] ![1, 64, 2, 128] inb).emb (ix4 x0 x1 x2 x3)) := by
  have h0 : x0.val = 0 := by omega
  show xtN W k t (64 * r + x1.val) x2 x3 = xtN W k (t + 1 * x0.val) (64 * r + 1 * x1.val) (0 + 1 * x2.val) (0 + 1 * x3.val)
  rw [h0]; congr 1 <;> omega

/-- The four words of one partial maximum: chunk `k`, half `t`, partial row `s`, parity `p`, lane `L`. -/
def ptN (W : S1x256x7168.Idx → EReal) (k t s p L : ℕ) : EReal := abs4 fun i => xtN W k t (32 * (s / 8) + 8 * i + s % 8) p L

def ptG (W : S1x256x7168.Idx → EReal) (k : ℕ) (y : S2x64x2x128.Idx) : Elt Ideal .bf16 := ptN W k (y 0) (y 1) (y 2) (y 3)

theorem part_at (v : View sig .tc .vmem S2x256x2x128 .bf16) (f : v.ty.Contents (Elt Ideal)) (W : S1x256x7168.Idx → EReal) (k : ℕ)
    (h : ∀ (t : Fin 2) (s : Fin 256) (p : Fin 2) (L : Fin 128), v.read (Elt Ideal) f (ix4 t s p L) = xtN W k t s p L)
    (t : Fin 2) (j : Fin 8) (i0 i1 i2 i3)
    (P : Vec Ideal S1x8x2x128 .bf16) (hP : P = k0_pay71 (F := Ideal)
      (k0_pay70 (v.readAt (Elt Ideal) (Rect.unit (s := S2x256x2x128) ![t.val, 32 * j.val, 0, 0] S1x8x2x128.size i0).toLoadRect f))
      (v.readAt (Elt Ideal) (Rect.unit (s := S2x256x2x128) ![t.val, 32 * j.val + 8, 0, 0] S1x8x2x128.size i1).toLoadRect f)
      (v.readAt (Elt Ideal) (Rect.unit (s := S2x256x2x128) ![t.val, 32 * j.val + 16, 0, 0] S1x8x2x128.size i2).toLoadRect f)
      (v.readAt (Elt Ideal) (Rect.unit (s := S2x256x2x128) ![t.val, 32 * j.val + 24, 0, 0] S1x8x2x128.size i3).toLoadRect f))
    (z : Fin 1) (s : Fin 8) (p : Fin 2) (L : Fin 128) (inb) :
    P (ix4 z s p L) = ptG W k ((Rect.unit (s := S2x64x2x128) ![t.val, 8 * j.val, 0, 0] ![1, 8, 2, 128] inb).emb (ix4 z s p L)) := by
  subst hP
  obtain rfl : z = 0 := Subsingleton.elim _ _
  have key : ∀ (o : ℕ) (ho : o < 4) (inb), v.readAt (Elt Ideal) (Rect.unit (s := S2x256x2x128) ![t.val, 32 * j.val + 8 * o, 0, 0] S1x8x2x128.size inb).toLoadRect f (ix4 0 s p L)
      = xtN W k t (32 * j.val + 8 * o + s.val) p L := by
    intro o ho inb
    rw [View.readAt_apply]
    refine Eq.trans ?_ (h t ⟨32 * j.val + 8 * o + s.val, by omega⟩ p L)
    refine congrArg (v.read (Elt Ideal) f) (funext fun a => Fin.ext ?_)
    fin_cases a
    · show t.val + 1 * 0 = t.val; omega
    · show 32 * j.val + 8 * o + 1 * s.val = 32 * j.val + 8 * o + s.val; omega
    · show 0 + 1 * p.val = p.val; omega
    · show 0 + 1 * L.val = L.val; omega
  refine (part_piece _ _ _ _ s p L (fun i => xtN W k t (32 * j.val + 8 * i + s.val) p L) (key 0 (by omega) i0) (key 1 (by omega) i1) (key 2 (by omega) i2) (key 3 (by omega) i3)).trans ?_
  show _ = ptN W k (t.val + 1 * 0) (8 * j.val + 1 * s.val) (0 + 1 * p.val) (0 + 1 * L.val)
  unfold ptN
  refine congrArg abs4 (funext fun i => ?_)
  have e1 : (8 * j.val + 1 * s.val) / 8 = j.val := by omega
  have e2 : (8 * j.val + 1 * s.val) % 8 = s.val := by omega
  rw [e1, e2]
  congr 1 <;> omega

/-- The block maximum of chunk `k`, half `t`, block `j` of the chunk, lane `L`. -/
def amN (W : S1x256x7168.Idx → EReal) (k t j L : ℕ) : EReal := amax fun c => xtN W k t (32 * j + c / 2) (c % 2) L

def am3G (W : S1x256x7168.Idx → EReal) (k : ℕ) (y : S2x8x128.Idx) : Elt Ideal .f32 := amN W k (y 0) (y 1) (y 2)

def invG (W : S1x256x7168.Idx → EReal) (k : ℕ) (y : S2x8x2x128.Idx) : Elt Ideal .bf16 := invOf (amN W k (y 0) (y 1) (y 3))

/-- The table of block maxima of the whole block of rows. -/
def amtG (W : S1x256x7168.Idx → EReal) (y : S2x128x128.Idx) : Elt Ideal .f32 := amN W ((y 1).val / 8) (y 0) ((y 1).val % 8) (y 2)

theorem am_at (v : View sig .tc .vmem S2x64x2x128 .bf16) (f : v.ty.Contents (Elt Ideal)) (W : S1x256x7168.Idx → EReal) (k : ℕ) (t : Fin 2)
    (h : ∀ (s : Fin 64) (p : Fin 2) (L : Fin 128), v.read (Elt Ideal) f (ix4 t s p L) = ptN W k t s p L)
    (A : FVec Ideal S8x128 .f32) (i0 i1 i2 i3 i4 i5 i6 i7) (hA : A = k0_pay95 (F := Ideal)
      (k0_pay92 (v.readAt (Elt Ideal) (⟨![t.val, 0, 0, 0], S1x8x2x128.size, ![1, 8, 1, 1], i0⟩ : LoadRect S2x64x2x128) f)
        (v.readAt (Elt Ideal) (⟨![t.val, 1, 0, 0], S1x8x2x128.size, ![1, 8, 1, 1], i1⟩ : LoadRect S2x64x2x128) f)
        (v.readAt (Elt Ideal) (⟨![t.val, 2, 0, 0], S1x8x2x128.size, ![1, 8, 1, 1], i2⟩ : LoadRect S2x64x2x128) f))
      (k0_pay93 (v.readAt (Elt Ideal) (⟨![t.val, 3, 0, 0], S1x8x2x128.size, ![1, 8, 1, 1], i3⟩ : LoadRect S2x64x2x128) f))
      (k0_pay94 (v.readAt (Elt Ideal) (⟨![t.val, 3, 0, 0], S1x8x2x128.size, ![1, 8, 1, 1], i3⟩ : LoadRect S2x64x2x128) f))
      (v.readAt (Elt Ideal) (⟨![t.val, 4, 0, 0], S1x8x2x128.size, ![1, 8, 1, 1], i4⟩ : LoadRect S2x64x2x128) f)
      (v.readAt (Elt Ideal) (⟨![t.val, 5, 0, 0], S1x8x2x128.size, ![1, 8, 1, 1], i5⟩ : LoadRect S2x64x2x128) f)
      (v.readAt (Elt Ideal) (⟨![t.val, 6, 0, 0], S1x8x2x128.size, ![1, 8, 1, 1], i6⟩ : LoadRect S2x64x2x128) f)
      (v.readAt (Elt Ideal) (⟨![t.val, 7, 0, 0], S1x8x2x128.size, ![1, 8, 1, 1], i7⟩ : LoadRect S2x64x2x128) f))
    (j : Fin 8) (L : Fin 128) : A (ix2 j L) = amN W k t j L := by
  subst hA
  have key : ∀ (q : ℕ) (hq : q < 8) (inb) (p : Fin 2),
      v.readAt (Elt Ideal) (⟨![t.val, q, 0, 0], S1x8x2x128.size, ![1, 8, 1, 1], inb⟩ : LoadRect S2x64x2x128) f (ix4 0 j p L)
        = abs4 fun i => xtN W k t (32 * j.val + (16 * i + 2 * q + p.val) / 2) ((16 * i + 2 * q + p.val) % 2) L := by
    intro q hq inb p
    rw [View.readAt_apply]
    refine Eq.trans (congrArg (v.read (Elt Ideal) f) (funext fun a => Fin.ext ?_)) ((h ⟨q + 8 * j.val, by omega⟩ p L).trans ?_)
    · fin_cases a
      · show t.val + 1 * 0 = t.val; omega
      · show q + 8 * j.val = q + 8 * j.val; rfl
      · show 0 + 1 * p.val = p.val; omega
      · show 0 + 1 * L.val = L.val; omega
    · unfold ptN
      refine congrArg abs4 (funext fun i => ?_)
      show xtN W k t (32 * ((q + 8 * j.val) / 8) + 8 * i + (q + 8 * j.val) % 8) p L = _
      have hp := p.isLt
      congr 1 <;> omega
  refine (am_piece ![_, _, _, _, _, _, _, _] j L (fun s p => abs4 fun i => xtN W k t (32 * j.val + (16 * i + 2 * s + p) / 2) ((16 * i + 2 * s + p) % 2) L) ?_).trans ?_
  · intro s p; fin_cases s
    · exact key 0 (by omega) i0 p
    · exact key 1 (by omega) i1 p
    · exact key 2 (by omega) i2 p
    · exact key 3 (by omega) i3 p
    · exact key 4 (by omega) i4 p
    · exact key 5 (by omega) i5 p
    · exact key 6 (by omega) i6 p
    · exact key 7 (by omega) i7 p
  · exact tree_eq_amax fun c => xtN W k t (32 * j.val + c / 2) (c % 2) L

/-- A row of the partial maxima lies in the piece of its eight rows. -/
theorem mem_part (t : Fin 2) (s : Fin 64) (p : Fin 2) (L : Fin 128) (j : ℕ) (hj : s.val / 8 = j) (inb) :
    ix4 t s p L ∈ (Rect.unit (s := S2x64x2x128) ![t.val, 8 * j, 0, 0] ![1, 8, 2, 128] inb).set := by
  rw [Rect.mem_set_unit]
  intro a; fin_cases a
  · show t.val ≤ t.val ∧ t.val < t.val + 1; omega
  · show 8 * j ≤ s.val ∧ s.val < 8 * j + 8; omega
  · show 0 ≤ p.val ∧ p.val < 0 + 2; omega
  · show 0 ≤ L.val ∧ L.val < 0 + 128; omega

theorem am_inb (t : Fin 2) (q : Fin 8) : ∀ a, S1x8x2x128.size a = 0 ∨ (![t.val, q.val, 0, 0] : Fin 4 → ℕ) a + (![1, 8, 1, 1] : Fin 4 → ℕ) a * (S1x8x2x128.size a - 1) < S2x64x2x128.size a := by
  revert t q; decide

/-- The eight block maxima of half `t`, read off the partial maxima. -/
def amOf (v : View sig .tc .vmem S2x64x2x128 .bf16) (f : v.ty.Contents (Elt Ideal)) (t : Fin 2) : FVec Ideal S8x128 .f32 :=
  k0_pay95 (F := Ideal) (k0_pay92 (v.readAt (Elt Ideal) (⟨![t.val, 0, 0, 0], S1x8x2x128.size, ![1, 8, 1, 1], am_inb t 0⟩ : LoadRect S2x64x2x128) f) (v.readAt (Elt Ideal) (⟨![t.val, 1, 0, 0], S1x8x2x128.size, ![1, 8, 1, 1], am_inb t 1⟩ : LoadRect S2x64x2x128) f) (v.readAt (Elt Ideal) (⟨![t.val, 2, 0, 0], S1x8x2x128.size, ![1, 8, 1, 1], am_inb t 2⟩ : LoadRect S2x64x2x128) f))
    (k0_pay93 (v.readAt (Elt Ideal) (⟨![t.val, 3, 0, 0], S1x8x2x128.size, ![1, 8, 1, 1], am_inb t 3⟩ : LoadRect S2x64x2x128) f)) (k0_pay94 (v.readAt (Elt Ideal) (⟨![t.val, 3, 0, 0], S1x8x2x128.size, ![1, 8, 1, 1], am_inb t 3⟩ : LoadRect S2x64x2x128) f))
    (v.readAt (Elt Ideal) (⟨![t.val, 4, 0, 0], S1x8x2x128.size, ![1, 8, 1, 1], am_inb t 4⟩ : LoadRect S2x64x2x128) f) (v.readAt (Elt Ideal) (⟨![t.val, 5, 0, 0], S1x8x2x128.size, ![1, 8, 1, 1], am_inb t 5⟩ : LoadRect S2x64x2x128) f)
    (v.readAt (Elt Ideal) (⟨![t.val, 6, 0, 0], S1x8x2x128.size, ![1, 8, 1, 1], am_inb t 6⟩ : LoadRect S2x64x2x128) f) (v.readAt (Elt Ideal) (⟨![t.val, 7, 0, 0], S1x8x2x128.size, ![1, 8, 1, 1], am_inb t 7⟩ : LoadRect S2x64x2x128) f)

section
variable (v : View sig .tc .vmem S2x64x2x128 .bf16) (f : v.ty.Contents (Elt Ideal)) (W : S1x256x7168.Idx → EReal) (k : ℕ) (t : Fin 2)
    (h : ∀ (s : Fin 64) (p : Fin 2) (L : Fin 128), v.read (Elt Ideal) f (ix4 t s p L) = ptN W k t s p L)
include h

theorem amOf_at (j : Fin 8) (L : Fin 128) : amOf v f t (ix2 j L) = amN W k t j L := am_at v f W k t h _ _ _ _ _ _ _ _ _ rfl j L

theorem am3_at (P : Vec Ideal S1x8x128 .f32) (hP : P = k0_pay97 (F := Ideal) (amOf v f t)) (z : Fin 1) (j : Fin 8) (L : Fin 128) (inb) :
    P (ix3 z j L) = am3G W k ((Rect.unit (s := S2x8x128) ![t.val, 0, 0] ![1, 8, 128] inb).emb (ix3 z j L)) := by
  subst hP
  obtain rfl : z = 0 := Subsingleton.elim _ _
  rw [pay96_at, amOf_at v f W k t h]
  show _ = amN W k (t.val + 1 * 0) (0 + 1 * j.val) (0 + 1 * L.val)
  congr 1 <;> omega

theorem amt_at (P : Vec Ideal S1x8x128 .f32) (hP : P = k0_pay97 (F := Ideal) (amOf v f t)) (z : Fin 1) (j : Fin 8) (L : Fin 128)
    (off : Fin 3 → ℕ) (hoff : off = ![t.val, 8 * k, 0]) (inb) :
    P (ix3 z j L) = amtG W ((Rect.unit (s := S2x128x128) off ![1, 8, 128] inb).emb (ix3 z j L)) := by
  subst hP hoff
  obtain rfl : z = 0 := Subsingleton.elim _ _
  rw [pay96_at, amOf_at v f W k t h]
  show _ = amN W ((8 * k + 1 * j.val) / 8) (t.val + 1 * 0) ((8 * k + 1 * j.val) % 8) (0 + 1 * L.val)
  have hj := j.isLt
  congr 1 <;> omega

theorem inv_at (P : Vec Ideal S1x8x2x128 .bf16) (hP : P = k0_pay98 (F := Ideal) (amOf v f t)) (z : Fin 1) (j : Fin 8) (p : Fin 2) (L : Fin 128) (inb) :
    P (ix4 z j p L) = invG W k ((Rect.unit (s := S2x8x2x128) ![t.val, 0, 0, 0] ![1, 8, 2, 128] inb).emb (ix4 z j p L)) := by
  subst hP
  obtain rfl : z = 0 := Subsingleton.elim _ _
  rw [inv_piece, amOf_at v f W k t h]
  show _ = invOf (amN W k (t.val + 1 * 0) (0 + 1 * j.val) (0 + 1 * L.val))
  congr 2 <;> omega

end

theorem amt_mem (t : Fin 2) (r L : Fin 128) (k t' : ℕ) (ht : t.val = t') (off : Fin 3 → ℕ) (hoff : off = ![t', 8 * k, 0]) (inb)
    (h1 : 8 * k ≤ r.val) (h2 : r.val < 8 * (k + 1)) : ix3 t r L ∈ (Rect.unit (s := S2x128x128) off S1x8x128.size inb).set := by
  subst hoff
  rw [Rect.mem_set_unit]
  intro a; fin_cases a
  · show t' ≤ t.val ∧ t.val < t' + 1; omega
  · show 8 * k ≤ r.val ∧ r.val < 8 * k + 8; omega
  · show 0 ≤ L.val ∧ L.val < 0 + 128; omega

theorem amt_not_mem (t : Fin 2) (r L : Fin 128) (k t' : ℕ) (off : Fin 3 → ℕ) (hoff : off = ![t', 8 * k, 0]) (inb)
    (h1 : r.val < 8 * k) : ix3 t r L ∉ (Rect.unit (s := S2x128x128) off S1x8x128.size inb).set := by
  subst hoff
  rw [Rect.mem_set_unit]
  intro h
  have := (h 1).1
  change 8 * k ≤ r.val at this
  omega

end Cert.KernelIdeal.Hand
end
-- ==== Proof.Pure4.lean ====
/- Bytes and words: how the four-bit codes of thirty-two rows, a byte each, become the two packed bytes of each pair of rows. -/
module

public import proofs.«01_k».proof.Proof.Gen.KernelIdeal
public import proofs.«01_k».proof.Proof.Gen.KernelIdeal.Skeleton
public import Idealize.ShloMosaic.Lib.Pointwise
public import Idealize.ShloMosaic.Lib.BitcastFour

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL.Sem

/-- The words `A` hold the byte `f p l` at row `p` of thirty-two, lane `l`. -/
def Bytes (A : IVec S8x128 32) (f : ℕ → ℕ → BitVec 8) : Prop :=
  ∀ (a : Fin 8) (l : Fin 128) (q : ℕ), q < 32 → (A (ix2 a l)).getLsbD q = (f (4 * a + q / 8) l).getLsbD (q % 8)

theorem bytes_bitcast (x : IVec S32x128 8) (f : ℕ → ℕ → BitVec 8) (h : ∀ (p : Fin 32) (l : Fin 128), x (ix2 p l) = f p l) :
    Bytes (bitcast S8x128 32 x bitcasts_S32x128_w8_S8x128_w32) f := by
  intro a l q hq
  exact (bitcast_8_32_getLsbD_ix2 x _ a l q hq ⟨4 * a + q / 8, by omega⟩ rfl).trans (congrArg (fun z : BitVec 8 => z.getLsbD (q % 8)) (h _ _))

/-- Words read back as bytes. -/
theorem bitcast_32_8_getLsbD (x : IVec S8x128 32) (p : Fin 32) (l : Fin 128) (q : ℕ) (hq : q < 8) :
    (bitcast S32x128 8 x bitcasts_S8x128_w32_S32x128_w8 (ix2 p l)).getLsbD q
      = (x (ix2 ⟨p / 4, by omega⟩ l)).getLsbD (8 * (p % 4) + q) := by
  rw [bitcast_getLsbD x _ _ q hq (by decide)]
  have e2 : (Shape.row S32x128 (ix2 p l) * 8 + q) % 32 = 8 * (p.val % 4) + q := by
    show (p.val * 8 + q) % 32 = _
    omega
  rw [e2]
  congr 2
  funext c
  match c with
  | ⟨0, _⟩ =>
    refine Fin.ext ((bitcasts_S8x128_w32_S32x128_w8.srcIdx_row _ _ _ ⟨0, Nat.zero_lt_two⟩ rfl).trans ?_)
    show (p.val * 8 + q) / 32 = p.val / 4
    omega
  | ⟨1, _⟩ => exact Fin.ext (bitcasts_S8x128_w32_S32x128_w8.srcIdx_other _ _ _ ⟨1, Nat.one_lt_two⟩ (by show ¬ 1 + 2 = 2; omega))

theorem bytes_unbitcast (x : IVec S8x128 32) (f : ℕ → ℕ → BitVec 8) (h : Bytes x f) (p : Fin 32) (l : Fin 128) :
    bitcast S32x128 8 x bitcasts_S8x128_w32_S32x128_w8 (ix2 p l) = f p l := by
  apply BitVec.eq_of_getLsbD_eq
  intro q hq
  rw [bitcast_32_8_getLsbD x p l q hq, h _ _ _ (by omega)]
  congr 1
  · congr 1
    show 4 * (p.val / 4) + (8 * (p.val % 4) + q) / 8 = p.val
    omega
  · omega

/-- The words whose bytes are a code's low four bits from `k` and its fifth from the sign of `d`. -/
theorem bytes_or (D K : IVec S8x128 32) (d k : ℕ → ℕ → BitVec 8) (hD : Bytes D d) (hK : Bytes K k) :
    Bytes (fun j => IntOp.ori (IntOp.andi (IntOp.shrsi .vector (D j) 3#32) 269488144#32) (K j)) (fun p l => (if (d p l).getLsbD 7 then 16#8 else 0#8) ||| k p l) := by
  intro a l q hq
  have hm : (269488144#32 : BitVec 32).getLsbD q = decide (q % 8 = 4) := by interval_cases q <;> rfl
  have h3 : (IntOp.shrsi .vector (D (ix2 a l)) 3#32) = (D (ix2 a l)).sshiftRight 3 := rfl
  have hk := hK a l q hq
  simp only [IntOp.ori, IntOp.andi, BitVec.getLsbD_or, BitVec.getLsbD_and, hm, h3, hk, BitVec.getLsbD_sshiftRight]
  congr 1
  by_cases h4 : q % 8 = 4
  · have hd := hD a l (q + 3) (by omega)
    have e1 : (q + 3) / 8 = q / 8 := by omega
    have e2 : (q + 3) % 8 = 7 := by omega
    rw [e1, e2] at hd
    rw [h4, show (3 + q) = q + 3 by omega, hd]
    have : ¬ 32 ≤ q := by omega
    have : q + 3 < 32 := by omega
    cases (d (4 * a + q / 8) l).getLsbD 7 <;> simp [*]
  · have h8 : q % 8 < 8 := Nat.mod_lt _ (by decide)
    have h16 : (16#8 : BitVec 8).getLsbD (q % 8) = false := by
      generalize q % 8 = m at h4 h8; interval_cases m <;> first | rfl | exact absurd rfl h4
    simp only [h4, decide_false, Bool.and_false]
    split_ifs <;> simp [h16]

/-- The packed bytes: row `p`'s takes its codes from `A` when `p` is even, from `B` when odd; the even row of the pair is the high half. -/
def packOf (f g : ℕ → ℕ → BitVec 8) (p l : ℕ) : BitVec 8 :=
  if p % 2 = 0 then (f (2 * (p / 2)) l <<< 4) ||| f (2 * (p / 2) + 1) l else (g (2 * (p / 2)) l <<< 4) ||| g (2 * (p / 2) + 1) l

theorem pay331_at (p : Fin 32) (l : Fin 128) : k0_pay331 (ix2 p l) = if p.val % 2 = 0 then 1#1 else 0#1 := by
  have h : ∀ p : Fin 32, (fun v13 : BitVec 32 => IntOp.cmpi .eq (Scalar.select (IntOp.andi (IntOp.xori (IntOp.cmpi .slt v13 0#32) (Scalar.cmpi .slt (Scalar.select (Scalar.cmpi .eq 2#32 0#32) 1#32 2#32) 0#32)) (IntOp.cmpi .ne v13 0#32))
      (IntOp.addi v13 (Scalar.select (Scalar.cmpi .eq 2#32 0#32) 1#32 2#32)) v13) 0#32) (IntOp.remsi .vector (BitVec.ofNat 32 p.val) (Scalar.select (Scalar.cmpi .eq 2#32 0#32) 1#32 2#32)) = if p.val % 2 = 0 then 1#1 else 0#1 := by decide
  rw [← h p]
  pointwise [k0_pay331]

theorem half_even (A : IVec S8x128 32) (f : ℕ → ℕ → BitVec 8) (h : Bytes A f) (hn : ∀ p l i, 4 ≤ i → (f p l).getLsbD i = false)
    (p : Fin 32) (l : Fin 128) (hp : p.val % 2 = 0) :
    bitcast S32x128 8 (fun j => IntOp.ori (IntOp.shli .vector (A j) 4#32) (IntOp.shrui .vector (A j) 8#32)) bitcasts_S8x128_w32_S32x128_w8 (ix2 p l)
      = (f p l <<< 4) ||| f (p + 1) l := by
  apply BitVec.eq_of_getLsbD_eq
  intro q hq
  rw [bitcast_32_8_getLsbD _ p l q hq]
  have hs : ∀ x : BitVec 32, IntOp.shli .vector x 4#32 = x <<< 4 := fun x => rfl
  have hr : ∀ x : BitVec 32, IntOp.shrui .vector x 8#32 = x >>> 8 := fun x => rfl
  have h0 := fun i (hi : i < 32) => h ⟨p / 4, by omega⟩ l i hi
  simp only [hs, hr, IntOp.ori, BitVec.getLsbD_or, BitVec.getLsbD_shiftLeft, BitVec.getLsbD_ushiftRight]
  have hlt : 8 * (p.val % 4) + q < 32 := by omega
  congr 1
  · by_cases h4 : q < 4
    · simp only [h4, decide_true, Bool.not_true, Bool.and_false, Bool.false_and]
      by_cases h5 : 8 * (p.val % 4) + q < 4
      · simp [h5]
      · rw [h0 _ (by omega), hn _ _ _ (by omega)]; simp
    · rw [h0 _ (by omega)]
      have e1 : 4 * (p.val / 4) + (8 * (p.val % 4) + q - 4) / 8 = p.val := by omega
      have e2 : (8 * (p.val % 4) + q - 4) % 8 = q - 4 := by omega
      have e3 : ¬ 8 * (p.val % 4) + q < 4 := by omega
      simp [e1, e2, e3, h4, hlt, hq]
  · rw [h0 _ (by omega)]
    have e1 : 4 * (p.val / 4) + (8 + (8 * (p.val % 4) + q)) / 8 = p.val + 1 := by omega
    have e2 : (8 + (8 * (p.val % 4) + q)) % 8 = q := by omega
    dsimp only
    rw [e1, e2]

theorem half_odd (B : IVec S8x128 32) (f : ℕ → ℕ → BitVec 8) (h : Bytes B f) (hn : ∀ p l i, 4 ≤ i → (f p l).getLsbD i = false)
    (p : Fin 32) (l : Fin 128) (hp : p.val % 2 = 1) :
    bitcast S32x128 8 (fun j => IntOp.ori (IntOp.shli .vector (B j) 12#32) (B j)) bitcasts_S8x128_w32_S32x128_w8 (ix2 p l)
      = (f (p - 1) l <<< 4) ||| f p l := by
  apply BitVec.eq_of_getLsbD_eq
  intro q hq
  rw [bitcast_32_8_getLsbD _ p l q hq]
  have hs : ∀ x : BitVec 32, IntOp.shli .vector x 12#32 = x <<< 12 := fun x => rfl
  have h0 := fun i (hi : i < 32) => h ⟨p / 4, by omega⟩ l i hi
  simp only [hs, IntOp.ori, BitVec.getLsbD_or, BitVec.getLsbD_shiftLeft]
  have hlt : 8 * (p.val % 4) + q < 32 := by omega
  congr 1
  · by_cases h4 : q < 4
    · simp only [h4, decide_true, Bool.not_true, Bool.and_false, Bool.false_and]
      by_cases h5 : 8 * (p.val % 4) + q < 12
      · simp [h5]
      · rw [h0 _ (by omega), hn _ _ _ (by omega)]; simp
    · rw [h0 _ (by omega)]
      have e1 : 4 * (p.val / 4) + (8 * (p.val % 4) + q - 12) / 8 = p.val - 1 := by omega
      have e2 : (8 * (p.val % 4) + q - 12) % 8 = q - 4 := by omega
      have e3 : ¬ 8 * (p.val % 4) + q < 12 := by omega
      simp [e1, e2, e3, h4, hlt, hq]
  · rw [h0 _ (by omega)]
    have e1 : 4 * (p.val / 4) + (8 * (p.val % 4) + q) / 8 = p.val := by omega
    have e2 : (8 * (p.val % 4) + q) % 8 = q := by omega
    simp [e1, e2]

/-- The two words of packed bytes. -/
theorem bytes_pay130 (A B : IVec S8x128 32) (f g : ℕ → ℕ → BitVec 8) (hA : Bytes A f) (hB : Bytes B g)
    (hf : ∀ p l i, 4 ≤ i → (f p l).getLsbD i = false) (hg : ∀ p l i, 4 ≤ i → (g p l).getLsbD i = false) :
    Bytes (k0_pay130 k0_pay331 A B) (packOf f g) := by
  have hx : k0_pay130 k0_pay331 A B = bitcast S8x128 32 (fun j : S32x128.Idx => Scalar.select (k0_pay331 j)
      (bitcast S32x128 8 (fun j => IntOp.ori (IntOp.shli .vector (A j) 4#32) (IntOp.shrui .vector (A j) 8#32)) bitcasts_S8x128_w32_S32x128_w8 j)
      (bitcast S32x128 8 (fun j => IntOp.ori (IntOp.shli .vector (B j) 12#32) (B j)) bitcasts_S8x128_w32_S32x128_w8 j)) bitcasts_S32x128_w8_S8x128_w32 := by
    unfold k0_pay130
    exact shapeCast_self _ _
  rw [hx]
  apply bytes_bitcast
  intro p l
  show Scalar.select (k0_pay331 (ix2 p l)) _ _ = _
  rw [pay331_at]
  unfold packOf
  rcases Nat.mod_two_eq_zero_or_one p.val with h | h
  · rw [if_pos h, if_pos h, show (Scalar.select 1#1) = fun (a b : BitVec 8) => a from rfl]
    simp only
    rw [half_even A f hA hf p l h, show 2 * (p.val / 2) = p.val by omega]
  · rw [if_neg (by omega), if_neg (by omega), show (Scalar.select 0#1) = fun (a b : BitVec 8) => b from rfl]
    simp only
    rw [half_odd B g hB hg p l h, show 2 * (p.val / 2) = p.val - 1 by omega, show p.val - 1 + 1 = p.val by omega]

theorem pay129_eq (v27 : IVec S32x128 1) (A B : IVec S8x128 32) : k0_pay129 v27 A B (k0_pay56 A) = k0_pay130 v27 A B := rfl

end Cert.KernelIdeal.Hand
end
-- ==== Proof.Code1.lean ====
/- The lookup of a code by its cell, over the real numbers: the cell of a normalised value and one comparison give the number of thresholds below it. -/
module

public import Mathlib.Data.Real.Basic
public import Mathlib.Algebra.Order.Floor.Ring
public import Mathlib.Tactic.Linarith
public import Mathlib.Tactic.NormNum
public import Mathlib.Tactic.IntervalCases
public import Idealize.ShloMosaic.PureOps.Ideal

@[expose] public section

set_option maxRecDepth 16384
set_option maxHeartbeats 4000000

noncomputable section

namespace Cert.Code

open Idealize.ShloMosaic

/-- The fifteen thresholds between neighbouring codes. -/
def T : ℕ → ℝ
  | 0 => -1778587/2097152
  | 1 => -640295/1048576
  | 2 => -120585/262144
  | 3 => -5698875/16777216
  | 4 => -3936059/16777216
  | 5 => -2313775/16777216
  | 6 => -12220529/268435456
  | 7 => 10681087/268435456
  | 8 => 8070193/67108864
  | 9 => 426815/2097152
  | 10 => 2449589/8388608
  | 11 => 13063161/33554432
  | 12 => 2104129/4194304
  | 13 => 10784175/16777216
  | 14 => 7226605/8388608
  | _ => 2

/-- The held code of a cell: the row of the second table its one threshold has. -/
def held (c : ℕ) : ℕ := [9, 10, 11, 12, 13, 13, 14, 14, 14, 0, 0, 0, 0, 0, 0, 0, 1, 1, 1, 2, 2, 2, 3, 3, 4, 5, 5, 6, 15, 7, 8, 8].getD c 0

/-- The code of a held row, by whether the value lies beyond the row's threshold. -/
def final (i : ℕ) : ℕ := [1, 2, 3, 4, 5, 6, 7, 7, 8, 9, 10, 11, 12, 13, 14, 7, 0, 1, 2, 3, 4, 5, 6, 8, 9, 10, 11, 12, 13, 14, 15, 7].getD i 0

/-- The magnitude of a cell's threshold. -/
def mag (c : ℕ) : ℝ := if c = 28 then 0 else |T (held c)|

/-- The code of a cell and a comparison. -/
def codeOf (c : ℕ) (d : Bool) : ℕ := final ((if d then 16 else 0) + held c)

/-- `k` is the number of thresholds below `u`: its neighbours' bounds. -/
def Brk (u : ℝ) (k : ℕ) : Prop := k ≤ 15 ∧ (k = 0 ∨ T (k - 1) < u) ∧ (k = 15 ∨ u ≤ T k)

theorem T_mono : ∀ i j : ℕ, i ≤ j → j < 15 → T i ≤ T j := by
  have hs : ∀ i : ℕ, i < 14 → T i ≤ T (i + 1) := by
    intro i hi
    interval_cases i <;> norm_num [T]
  intro i j hij
  induction hij with
  | refl => intro _; exact le_refl _
  | step h ih => intro hj; exact (ih (by omega)).trans (hs _ (by omega))

theorem Brk.lt {u : ℝ} {k : ℕ} (h : Brk u k) (i : ℕ) (hi : i < 15) : T i < u ↔ i < k := by
  obtain ⟨hk, h1, h2⟩ := h
  constructor
  · intro hu
    by_contra hik
    rcases h2 with h2 | h2
    · omega
    · exact absurd hu (not_lt.2 (h2.trans (T_mono _ _ (by omega) hi)))
  · intro hik
    rcases h1 with h1 | h1
    · omega
    · exact (T_mono i (k - 1) (by omega) (by omega)).trans_lt h1

/-- The scaled value whose rounding is the cell. -/
def zOf (u : ℝ) : ℝ := if 10013901/1048576 * u + 126 < 128 then 2 * (10013901/1048576 * u + 126) else 10013901/1048576 * u + 126

theorem rhe_bounds (r : ℝ) : (Ideal.roundHalfEven r : ℝ) - 1/2 ≤ r ∧ r ≤ (Ideal.roundHalfEven r : ℝ) + 1/2 := by
  have h1 := Int.floor_le r
  have h2 := Int.lt_floor_add_one r
  unfold Ideal.roundHalfEven
  dsimp only
  split_ifs <;> push_cast <;> constructor <;> linarith

theorem code_real (u : ℝ) (hl : -1 ≤ u) (hu : u ≤ 1) :
    ∃ n : ℕ, Ideal.roundHalfEven (zOf u) = n ∧ 128 ≤ n ∧ n ≤ 256 ∧
      ∀ d : Bool, (n % 32 ≠ 28 → (d = true ↔ if u < 0 then u ≤ -mag (n % 32) else mag (n % 32) < u)) → Brk u (codeOf (n % 32) d) := by
  obtain ⟨b1, b2⟩ := rhe_bounds (zOf u)
  generalize Ideal.roundHalfEven (zOf u) = n at b1 b2
  unfold zOf at b1 b2
  split_ifs at b1 b2 with hy
  · have n1 : (232 : ℤ) < n := by
      have : (232 : ℝ) < n := by linarith
      exact_mod_cast this
    have n2 : n < (257 : ℤ) := by
      have : (n : ℝ) < 257 := by linarith
      exact_mod_cast this
    obtain ⟨m, rfl⟩ : ∃ m : ℕ, n = m := ⟨n.toNat, by omega⟩
    refine ⟨m, rfl, by omega, by omega, ?_⟩
    have m1 : 232 < m := by omega
    have m2 : m < 257 := by omega
    clear n1 n2
    push_cast at b1 b2
    interval_cases m
    all_goals
      norm_num at b1 b2
      intro d hd
      norm_num [mag, held, T, abs_of_neg, abs_of_pos] at hd
      cases d
      all_goals
        norm_num [codeOf, final, held, Brk, T] at hd ⊢
        try split_ifs at hd
        all_goals first | (constructor <;> linarith) | linarith
  · have n1 : (127 : ℤ) < n := by
      have : (127 : ℝ) < n := by linarith
      exact_mod_cast this
    have n2 : n < (137 : ℤ) := by
      have : (n : ℝ) < 137 := by linarith
      exact_mod_cast this
    obtain ⟨m, rfl⟩ : ∃ m : ℕ, n = m := ⟨n.toNat, by omega⟩
    refine ⟨m, rfl, by omega, by omega, ?_⟩
    have m1 : 127 < m := by omega
    have m2 : m < 137 := by omega
    clear n1 n2
    push_cast at b1 b2
    interval_cases m
    all_goals
      norm_num at b1 b2
      intro d hd
      norm_num [mag, held, T, abs_of_neg, abs_of_pos] at hd
      cases d
      all_goals
        norm_num [codeOf, final, held, Brk, T] at hd ⊢
        try split_ifs at hd
        all_goals first | (constructor <;> linarith) | linarith

end Cert.Code
end
-- ==== Proof.Code2.lean ====
/- The kernel's code of one element over the extended reals: the cell of the scaled value, the comparison with the cell's threshold. -/
module

public import proofs.«01_k».proof.Proof.Code1
public import Idealize.ShloMosaic.PureOps.Vector
public import Idealize.ShloMosaic.Lib.Pointwise

@[expose] public section

set_option maxRecDepth 16384
set_option maxHeartbeats 1000000

noncomputable section

namespace Cert.Code

open Idealize.ShloMosaic

/-- The scale's inverse, `9.55 / am`, as the kernel stores it. -/
def ivOf (a : EReal) : EReal := Ideal.ofBits .f32 0x4118CCCD#32 * Ideal.div 1 (if a = 0 then 1 else a)

/-- The normalised value, as the reference computes it. -/
def uOf (x am : EReal) : EReal := x * Ideal.div 1 (if am = 0 then 1 else am)

/-- The cell of a value under a scale's inverse. -/
def cellW (x iv : EReal) : BitVec 32 :=
  IntOp.andi (Ideal.fptosi 32 (Ideal.liftRound Ideal.roundHalfEven
    (if x * iv + Ideal.ofBits FTy.bf16 17148#16 < Ideal.ofBits FTy.f32 1124073472#32 then
        Ideal.ofBits FTy.f32 1073741824#32 * (x * iv + Ideal.ofBits FTy.bf16 17148#16)
      else x * iv + Ideal.ofBits FTy.bf16 17148#16))) 31#32

/-- All ones when the value lies beyond the threshold of magnitude `am * m` on its side of zero. -/
def beyW (x am m : EReal) : BitVec 32 :=
  Scalar.select (if x < 0 then BitVec.ofBool (decide (x ≤ 0 - am * m)) else BitVec.ofBool (decide (am * m < x))) 4294967295#32 0#32

theorem c126 : Ideal.ofBits FTy.bf16 17148#16 = ((126 : ℝ) : EReal) := by
  simp [Ideal.ofBits, Ideal.ieee]; rw [← EReal.coe_mul]; congr 1; norm_num
theorem c128 : Ideal.ofBits FTy.f32 1124073472#32 = ((128 : ℝ) : EReal) := by
  simp [Ideal.ofBits, Ideal.ieee]; rw [← EReal.coe_mul]; congr 1; norm_num
theorem c2 : Ideal.ofBits FTy.f32 1073741824#32 = ((2 : ℝ) : EReal) := by
  simp [Ideal.ofBits, Ideal.ieee]; rw [← EReal.coe_mul]; congr 1; norm_num
theorem cS : Ideal.ofBits .f32 0x4118CCCD#32 = ((10013901/1048576 : ℝ) : EReal) := by
  simp [Ideal.ofBits, Ideal.ieee]; rw [← EReal.coe_mul]; congr 1; norm_num

theorem norm_cases (x am : EReal) (h : max x (-x) ≤ am) :
    ∃ u : ℝ, -1 ≤ u ∧ u ≤ 1 ∧ uOf x am = u ∧ x * ivOf am = ((10013901/1048576 * u : ℝ) : EReal) ∧
      (u = 0 ∨ ∃ a r : ℝ, 0 < a ∧ am = a ∧ x = r ∧ r = u * a) := by
  have h1 : x ≤ am := (le_max_left _ _).trans h
  have h2 : -x ≤ am := (le_max_right _ _).trans h
  unfold uOf ivOf
  rw [cS]
  induction am with
  | bot =>
    have e1 : x = ⊥ := le_bot_iff.1 h1
    subst e1
    simp at h2
  | top =>
    refine ⟨0, by norm_num, by norm_num, ?_, ?_, Or.inl rfl⟩
    · simp [Ideal.div]
    · simp [Ideal.div]
  | coe a =>
    induction x with
    | bot => simp at h2
    | top => simp at h1
    | coe r =>
      have h1' : r ≤ a := by exact_mod_cast h1
      have h2' : -r ≤ a := by exact_mod_cast h2
      by_cases ha : a = 0
      · subst ha
        have hr : r = 0 := by linarith
        subst hr
        refine ⟨0, by norm_num, by norm_num, ?_, ?_, Or.inl rfl⟩
        · simp
        · simp
      · have ha' : 0 < a := lt_of_le_of_ne (by linarith) (Ne.symm ha)
        have hz : ((a : ℝ) : EReal) ≠ 0 := by exact_mod_cast ha
        rw [if_neg hz, Ideal.div_coe ha, one_mul]
        refine ⟨r * (1 / a), ?_, ?_, ?_, ?_, Or.inr ⟨a, r, ha', rfl, rfl, ?_⟩⟩
        · rw [mul_one_div, le_div_iff₀ ha']; linarith
        · rw [mul_one_div, div_le_iff₀ ha']; linarith
        · rw [← EReal.coe_mul]
        · rw [← EReal.coe_mul, ← EReal.coe_mul]
          congr 1; ring
        · field_simp

theorem fptosi_nat (n : ℕ) (h : n ≤ 256) : Ideal.fptosi 32 (((n : ℤ) : ℝ) : EReal) = BitVec.ofNat 32 n := by
  rw [Ideal.fptosi, Ideal.toIntClamped_coe]
  rw [Int.floor_intCast, Int.ceil_intCast, ite_self]
  have : max (-((2 ^ (32 - 1) : ℕ) : ℤ)) (min (((2 ^ (32 - 1) : ℕ) : ℤ) - 1) (n : ℤ)) = n := by
    norm_num
    omega
  rw [this, BitVec.ofInt_natCast]

theorem and31 (n : ℕ) (h : n ≤ 256) : IntOp.andi (BitVec.ofNat 32 n) 31#32 = BitVec.ofNat 32 (n % 32) := by
  apply BitVec.eq_of_toNat_eq
  show ((BitVec.ofNat 32 n) &&& 31#32).toNat = _
  rw [BitVec.toNat_and, BitVec.toNat_ofNat, BitVec.toNat_ofNat, BitVec.toNat_ofNat, Nat.mod_eq_of_lt (by omega : n < 2 ^ 32)]
  have e : n &&& 31 = n % 32 := Nat.and_two_pow_sub_one_eq_mod n 5
  rw [show 31 % 2 ^ 32 = 31 from rfl, e, Nat.mod_eq_of_lt (by omega : n % 32 < 2 ^ 32)]

theorem sel_iff (p : Prop) [Decidable p] :
    Scalar.select (BitVec.ofBool (decide p)) 4294967295#32 0#32 = 4294967295#32 ↔ p := by
  by_cases h : p <;> simp [h, Scalar.select]

/-- An element's cell, its comparison and its code. -/
def cN (x am : EReal) : ℕ := (cellW x (ivOf am)).toNat
def bB (x am : EReal) : Bool := decide (beyW x am (mag (cN x am)) = 4294967295#32)
def kc (x am : EReal) : ℕ := codeOf (cN x am) (bB x am)

theorem cellW_eq (x am : EReal) : cellW x (ivOf am) = BitVec.ofNat 32 (cN x am) := by unfold cN; simp

theorem cN_lt (x am : EReal) : cN x am < 32 := by
  unfold cN cellW IntOp.andi
  rw [BitVec.toNat_and]
  exact lt_of_le_of_lt Nat.and_le_right (by decide)

theorem beyW_eq (x am : EReal) : beyW x am (mag (cN x am)) = (if bB x am then 4294967295#32 else 0#32) := by
  have hs : beyW x am (mag (cN x am)) = 4294967295#32 ∨ beyW x am (mag (cN x am)) = 0#32 := by
    unfold beyW Scalar.select
    split_ifs <;> simp
  unfold bB
  rcases hs with hs | hs <;> rw [hs] <;> simp

/-- The kernel's code brackets the normalised value. -/
theorem code_brk (x am : EReal) (h : max x (-x) ≤ am) :
    ∃ u : ℝ, uOf x am = u ∧ Brk u (kc x am) := by
  obtain ⟨u, hl, hu, e1, e2, h3⟩ := norm_cases x am h
  obtain ⟨n, hn, n1, n2, hd⟩ := code_real u hl hu
  have hcell : cellW x (ivOf am) = BitVec.ofNat 32 (n % 32) := by
    unfold cellW
    rw [e2, c126, c128, c2, ← EReal.coe_add, ← EReal.coe_mul]
    have : (if ((10013901/1048576 * u + 126 : ℝ) : EReal) < ((128 : ℝ) : EReal) then ((2 * (10013901/1048576 * u + 126) : ℝ) : EReal) else ((10013901/1048576 * u + 126 : ℝ) : EReal))
        = ((zOf u : ℝ) : EReal) := by
      unfold zOf
      simp only [EReal.coe_lt_coe_iff]
      split_ifs <;> rfl
    rw [this, Ideal.liftRound_coe, hn, fptosi_nat n n2, and31 n n2]
  have hc : cN x am = n % 32 := by
    unfold cN
    rw [hcell, BitVec.toNat_ofNat]
    omega
  refine ⟨u, e1, ?_⟩
  unfold kc
  rw [hc]
  refine hd _ ?_
  · intro hne
    unfold bB
    rw [hc]
    rw [decide_eq_true_iff]
    rcases h3 with h3 | ⟨a, r, ha, rfl, rfl, hr⟩
    · exfalso
      apply hne
      subst h3
      have hz : zOf 0 = ((252 : ℤ) : ℝ) := by unfold zOf; norm_num
      rw [hz] at hn
      have : Ideal.roundHalfEven ((252 : ℤ) : ℝ) = 252 := by
        unfold Ideal.roundHalfEven
        rw [Int.floor_intCast]; norm_num
      omega
    · unfold beyW
      have k1 : ((r : EReal) < 0) ↔ u < 0 := by
        rw [show (0 : EReal) = ((0 : ℝ) : EReal) from rfl, EReal.coe_lt_coe_iff, hr]
        constructor
        · intro hh; by_contra hc; push Not at hc; nlinarith
        · intro hh; nlinarith
      have k2 : ((r : EReal) ≤ 0 - (a : EReal) * (mag (n % 32) : EReal)) ↔ u ≤ -mag (n % 32) := by
        rw [show (0 : EReal) = ((0 : ℝ) : EReal) from rfl, ← EReal.coe_mul, ← EReal.coe_sub, EReal.coe_le_coe_iff, hr]
        constructor
        · intro hh
          have : u * a ≤ (-mag (n % 32)) * a := by linarith
          exact le_of_mul_le_mul_right this ha
        · intro hh
          have := mul_le_mul_of_nonneg_right hh ha.le
          linarith
      have k3 : ((a : EReal) * (mag (n % 32) : EReal) < (r : EReal)) ↔ mag (n % 32) < u := by
        rw [← EReal.coe_mul, EReal.coe_lt_coe_iff, hr]
        constructor
        · intro hh
          have : mag (n % 32) * a < u * a := by linarith
          exact lt_of_mul_lt_mul_right this ha.le
        · intro hh
          have := mul_lt_mul_of_pos_right hh ha
          linarith
      simp only [k1, k2, k3]
      split_ifs with g1 <;> exact sel_iff _

theorem Brk.unique {u : ℝ} {k k' : ℕ} (h : Brk u k) (h' : Brk u k') : k = k' := by
  have e : ∀ i < 15, i < k ↔ i < k' := fun i hi => (h.lt i hi).symm.trans (h'.lt i hi)
  obtain ⟨b, -, -⟩ := h
  obtain ⟨b', -, -⟩ := h'
  rcases Nat.lt_trichotomy k k' with hlt | heq | hlt
  · have := e k (by omega); omega
  · exact heq
  · have := e k' (by omega); omega

end Cert.Code
end
-- ==== Proof.Pure5.lean ====
/- The four-bit codes of thirty-two rows, as the bytes of eight rows of words: each row's cell looked up, and the comparison with its one threshold. -/
module

public import proofs.«01_k».proof.Proof.Pure2
public import proofs.«01_k».proof.Proof.Pure4
public import proofs.«01_k».proof.Proof.Code2

@[expose] public section

set_option maxRecDepth 16384
set_option maxHeartbeats 1000000

noncomputable section

namespace Cert.KernelIdeal.Hand

open Cert.KernelIdeal Cert.KernelIdeal.Gen Cert.Code
open Idealize.ShloMosaic Idealize.ShloMosaic.TcCoe
open Idealize.SL.Sem

/-- The bytes of the comparisons of thirty-two rows. -/
def beyV (d0 d1 : IVec S16x128 32) : IVec S32x128 8 :=
  trunci 8 (concatenate S32x128 0 [⟨S16x128, d0⟩, ⟨S16x128, d1⟩] concatenates_S16x128_S16x128_S32x128_d0) natLt_8_32

/-- The bytes of the held codes of thirty-two rows. -/
def heldV (v1 : IVec S32x128 32) (c0 c1 : IVec S16x128 32) : IVec S32x128 8 :=
  trunci 8 (dynamicGather 1 v1 (shapeCast S32x128 (shapeCast S32x128x1 (extsi 32 (trunci 8 (concatenate S32x128 0 [⟨S16x128, c0⟩, ⟨S16x128, c1⟩] concatenates_S16x128_S16x128_S32x128_d0) natLt_8_32 : IVec S32x128 8) natLt_8_32) shapeCasts_S32x128_S32x128x1) shapeCasts_S32x128x1_S32x128)) natLt_8_32

theorem pay31_form (v1 v3 : IVec S32x128 32) (c0 d0 c1 d1 : IVec S16x128 32) :
    k0_pay31 v1 v3 c0 d0 c1 d1 = k0_pay30 v3 (shapeCast S32x128x1 (extsi 32 (bitcast S32x128 8
      (fun j => IntOp.ori (IntOp.andi (IntOp.shrsi .vector (bitcast S8x128 32 (beyV d0 d1) bitcasts_S32x128_w8_S8x128_w32 j) 3#32) 269488144#32) (bitcast S8x128 32 (heldV v1 c0 c1) bitcasts_S32x128_w8_S8x128_w32 j))
      bitcasts_S8x128_w32_S32x128_w8) natLt_8_32) shapeCasts_S32x128_S32x128x1) := rfl

/-- A table whose row holds `g i` in lane `i`. -/
def Tab (v : IVec S32x128 32) (g : ℕ → ℕ) : Prop := ∀ (p : Fin 32) (i : Fin 128), i.val < 32 → v (ix2 p i) = BitVec.ofNat 32 (g i)

theorem cat_at (x y : IVec S16x128 32) (G : ℕ → ℕ → BitVec 32) (h0 : ∀ (a : Fin 16) (l : Fin 128), x (ix2 a l) = G a l)
    (h1 : ∀ (a : Fin 16) (l : Fin 128), y (ix2 a l) = G (16 + a) l) (p : Fin 32) (l : Fin 128) :
    concatenate S32x128 0 [⟨S16x128, x⟩, ⟨S16x128, y⟩] concatenates_S16x128_S16x128_S32x128_d0 (ix2 p l) = G p l := by
  pointwise
  by_cases h : p.val < 16
  · exact (dif_pos h).trans (h0 _ _)
  · refine (dif_neg h).trans ((h1 _ _).trans ?_)
    have e : 16 + (p.val - 16) = p.val := by omega
    dsimp only
    rw [e]

theorem beyV_at (d0 d1 : IVec S16x128 32) (D : ℕ → ℕ → Bool)
    (h0 : ∀ (a : Fin 16) (l : Fin 128), d0 (ix2 a l) = if D a l then 4294967295#32 else 0#32)
    (h1 : ∀ (a : Fin 16) (l : Fin 128), d1 (ix2 a l) = if D (16 + a) l then 4294967295#32 else 0#32) (p : Fin 32) (l : Fin 128) :
    beyV d0 d1 (ix2 p l) = if D p l then 255#8 else 0#8 := by
  have key : ∀ b : Bool, BitVec.setWidth 8 (if b then 4294967295#32 else 0#32) = if b then 255#8 else 0#8 := by decide
  exact (congrArg (BitVec.setWidth 8) (cat_at d0 d1 (fun p l => if D p l then 4294967295#32 else 0#32) h0 h1 p l)).trans (key _)

theorem heldV_at (v1 : IVec S32x128 32) (hv : Tab v1 held) (c0 c1 : IVec S16x128 32) (C : ℕ → ℕ → ℕ) (hC : ∀ a l, C a l < 32)
    (h0 : ∀ (a : Fin 16) (l : Fin 128), c0 (ix2 a l) = BitVec.ofNat 32 (C a l))
    (h1 : ∀ (a : Fin 16) (l : Fin 128), c1 (ix2 a l) = BitVec.ofNat 32 (C (16 + a) l)) (p : Fin 32) (l : Fin 128) :
    heldV v1 c0 c1 (ix2 p l) = BitVec.ofNat 8 (held (C p l)) := by
  have hc : ∀ c < 32, (BitVec.signExtend 32 (BitVec.setWidth 8 (BitVec.ofNat 32 c))).toNat % 128 = c := by decide
  have hh : ∀ c < 32, BitVec.setWidth 8 (BitVec.ofNat 32 (held c)) = BitVec.ofNat 8 (held c) := by decide
  have hx := cat_at c0 c1 (fun p l => BitVec.ofNat 32 (C p l)) h0 h1 p l
  unfold heldV
  generalize concatenate S32x128 0 [⟨S16x128, c0⟩, ⟨S16x128, c1⟩] concatenates_S16x128_S16x128_S32x128_d0 = cc at hx
  have key : ∀ i : Fin 128, i.val = (BitVec.signExtend 32 (BitVec.setWidth 8 (cc (ix2 p l)))).toNat % 128 →
      BitVec.setWidth 8 (v1 (ix2 p i)) = BitVec.ofNat 8 (held (C p l)) := by
    intro i hi
    rw [hx, hc _ (hC _ _)] at hi
    have := hC p l
    rw [hv p i (by omega), hi]; exact hh _ (hC _ _)
  pointwise
  exact key _ rfl

theorem pay30_bytes (v3 : IVec S32x128 32) (hv : Tab v3 final) (b : IVec S32x128 8) (B : ℕ → ℕ → ℕ) (hB : ∀ p l, B p l < 32)
    (h : ∀ (p : Fin 32) (l : Fin 128), b (ix2 p l) = BitVec.ofNat 8 (B p l)) :
    Bytes (k0_pay30 v3 (shapeCast S32x128x1 (extsi 32 b natLt_8_32) shapeCasts_S32x128_S32x128x1)) (fun p l => BitVec.ofNat 8 (final (B p l))) := by
  unfold k0_pay30
  apply bytes_bitcast
  intro p l
  have hc : ∀ c < 32, (BitVec.signExtend 32 (BitVec.ofNat 8 c)).toNat % 128 = c := by decide
  have hh : ∀ c < 32, BitVec.setWidth 8 (BitVec.ofNat 32 (final c)) = BitVec.ofNat 8 (final c) := by decide
  have key : ∀ i : Fin 128, i.val = (BitVec.signExtend 32 (b (ix2 p l))).toNat % 128 →
      BitVec.setWidth 8 (v3 (ix2 p i)) = BitVec.ofNat 8 (final (B p l)) := by
    intro i hi
    rw [h, hc _ (hB _ _)] at hi
    have := hB p l
    rw [hv p i (by omega), hi]; exact hh _ (hB _ _)
  pointwise
  exact key _ rfl

/-- The codes of thirty-two rows: the cells `C`, the comparisons `D`. -/
theorem bytes_pay31 (v1 v3 : IVec S32x128 32) (hv1 : Tab v1 held) (hv3 : Tab v3 final) (c0 d0 c1 d1 : IVec S16x128 32) (C : ℕ → ℕ → ℕ) (D : ℕ → ℕ → Bool)
    (hC : ∀ a l, C a l < 32)
    (hc0 : ∀ (a : Fin 16) (l : Fin 128), c0 (ix2 a l) = BitVec.ofNat 32 (C a l))
    (hc1 : ∀ (a : Fin 16) (l : Fin 128), c1 (ix2 a l) = BitVec.ofNat 32 (C (16 + a) l))
    (hd0 : ∀ (a : Fin 16) (l : Fin 128), d0 (ix2 a l) = if D a l then 4294967295#32 else 0#32)
    (hd1 : ∀ (a : Fin 16) (l : Fin 128), d1 (ix2 a l) = if D (16 + a) l then 4294967295#32 else 0#32) :
    Bytes (k0_pay31 v1 v3 c0 d0 c1 d1) (fun p l => BitVec.ofNat 8 (codeOf (C p l) (D p l))) := by
  rw [pay31_form]
  have hfin : ∀ c < 32, ∀ b : Bool, ((if (if b then 255#8 else 0#8 : BitVec 8).getLsbD 7 then 16#8 else 0#8) ||| BitVec.ofNat 8 (held c) : BitVec 8) = BitVec.ofNat 8 ((if b then 16 else 0) + held c) := by decide
  have hlt : ∀ c < 32, ∀ b : Bool, (if b then 16 else 0) + held c < 32 := by decide
  refine pay30_bytes v3 hv3 _ (fun p l => (if D p l then 16 else 0) + held (C p l)) (fun p l => hlt _ (hC _ _) _) ?_
  intro p l
  refine (bytes_unbitcast _ _ (bytes_or _ _ (fun p l => if D p l then 255#8 else 0#8) (fun p l => BitVec.ofNat 8 (held (C p l)))
    (bytes_bitcast _ _ (beyV_at d0 d1 D hd0 hd1)) (bytes_bitcast _ _ (heldV_at v1 hv1 c0 c1 C hC hc0 hc1))) p l).trans ?_
  exact hfin _ (hC _ _) _

theorem pay19_at (iv : FVec Ideal S16x128 .bf16) (raw : FVec Ideal S1x8x2x128 .bf16) (a : Fin 16) (l : Fin 128) :
    k0_pay19 (F := Ideal) iv raw (ix2 a l) = cellW (raw (ix4 0 ⟨a / 2, by omega⟩ ⟨a % 2, by omega⟩ l)) (iv (ix2 a l)) := by
  have hx : (if a.val % 2 = 0 then raw (ix4 0 ⟨a / 2, by omega⟩ 0 l) else raw (ix4 0 ⟨a / 2, by omega⟩ 1 l)) = raw (ix4 0 ⟨a / 2, by omega⟩ ⟨a % 2, by omega⟩ l) := by
    split_ifs with h
    · congr 2; exact Fin.ext h.symm
    · congr 2; exact Fin.ext (show 1 = a.val % 2 by omega)
  rw [← hx]
  pointwise [k0_pay19, k0_pay18]
  rfl

theorem pay20_at (v8 am : FVec Ideal S16x128 .f32) (iv : FVec Ideal S16x128 .bf16) (raw : FVec Ideal S1x8x2x128 .bf16) (c : ℕ) (hc : c < 32) (m : EReal) (a : Fin 16) (l : Fin 128)
    (h19 : k0_pay19 (F := Ideal) iv raw (ix2 a l) = BitVec.ofNat 32 c) (h8 : v8 (ix2 a ⟨c, by omega⟩) = m) :
    k0_pay20 (F := Ideal) v8 am iv raw (ix2 a l) = beyW (raw (ix4 0 ⟨a / 2, by omega⟩ ⟨a % 2, by omega⟩ l)) (am (ix2 a l)) m := by
  have hx : (if a.val % 2 = 0 then raw (ix4 0 ⟨a / 2, by omega⟩ 0 l) else raw (ix4 0 ⟨a / 2, by omega⟩ 1 l)) = raw (ix4 0 ⟨a / 2, by omega⟩ ⟨a % 2, by omega⟩ l) := by
    split_ifs with h
    · congr 2; exact Fin.ext h.symm
    · congr 2; exact Fin.ext (show 1 = a.val % 2 by omega)
  rw [← hx]
  have h9 : ∀ i : Fin 128, i.val = (k0_pay19 (F := Ideal) iv raw (ix2 a l)).toNat % 128 → v8 (ix2 a i) = m := by
    intro i hi
    rw [h19, BitVec.toNat_ofNat] at hi
    rw [← h8]; congr 2; apply Fin.ext; show i.val = c; omega
  unfold k0_pay20
  generalize k0_pay19 (F := Ideal) iv raw = cc at h9
  pointwise [k0_pay18]
  rw [h9 _ rfl]
  rfl

theorem pay10_at (raw : FVec Ideal S1x1x2x128 .bf16) (a : Fin 16) (l : Fin 128) (z : EReal) (h : ∀ p : Fin 2, raw (ix4 0 0 p l) = z) :
    k0_pay10 (F := Ideal) raw (ix2 a l) = z := by
  pointwise [k0_pay10]
  simp only [h, dite_eq_ite, ite_self]

theorem pay9_at (raw : FVec Ideal S1x1x128 .f32) (a : Fin 16) (l : Fin 128) :
    k0_pay9 (F := Ideal) raw (ix2 a l) = raw (ix3 0 0 l) := by
  pointwise [k0_pay9]

/-- The codes of thirty-two rows of the transposed tile, from two loads of it, the blocks' maxima and their scales' inverses. -/
def code31 (v1 v3 : IVec S32x128 32) (v8 : FVec Ideal S16x128 .f32) (am : FVec Ideal S1x1x128 .f32) (iv : FVec Ideal S1x1x2x128 .bf16) (xa xb : FVec Ideal S1x8x2x128 .bf16) : IVec S8x128 32 :=
  k0_pay31 v1 v3 (k0_pay19 (F := Ideal) (k0_pay10 iv) xa) (k0_pay20 (F := Ideal) v8 (k0_pay9 am) (k0_pay10 iv) xa) (k0_pay19 (F := Ideal) (k0_pay10 iv) xb) (k0_pay20 (F := Ideal) v8 (k0_pay9 am) (k0_pay10 iv) xb)

theorem invOf_eq (a : EReal) : invOf a = ivOf a := rfl

/-- The three tables as the loop holds them. -/
structure Tabs (v1 v3 : IVec S32x128 32) (v8 : FVec Ideal S16x128 .f32) : Prop where
  held : Tab v1 held
  final : Tab v3 final
  mag : ∀ (a : Fin 16) (i : Fin 128), i.val < 32 → v8 (ix2 a i) = ((Cert.Code.mag i : ℝ) : EReal)

theorem bytes_code31 (v1 v3 : IVec S32x128 32) (v8 : FVec Ideal S16x128 .f32) (T : Tabs v1 v3 v8) (am : FVec Ideal S1x1x128 .f32) (iv : FVec Ideal S1x1x2x128 .bf16)
    (xa xb : FVec Ideal S1x8x2x128 .bf16) (A : ℕ → EReal) (X : ℕ → ℕ → EReal)
    (ham : ∀ l : Fin 128, am (ix3 0 0 l) = A l) (hiv : ∀ (p : Fin 2) (l : Fin 128), iv (ix4 0 0 p l) = invOf (A l))
    (hxa : ∀ (s : Fin 8) (p : Fin 2) (l : Fin 128), xa (ix4 0 s p l) = X (2 * s + p) l)
    (hxb : ∀ (s : Fin 8) (p : Fin 2) (l : Fin 128), xb (ix4 0 s p l) = X (16 + (2 * s + p)) l) :
    Bytes (code31 v1 v3 v8 am iv xa xb) (fun p l => BitVec.ofNat 8 (kc (X p l) (A l))) := by
  have hc : ∀ (x : FVec Ideal S1x8x2x128 .bf16) (n : ℕ) (hx : ∀ (s : Fin 8) (p : Fin 2) (l : Fin 128), x (ix4 0 s p l) = X (n + (2 * s + p)) l) (a : Fin 16) (l : Fin 128),
      k0_pay19 (F := Ideal) (k0_pay10 iv) x (ix2 a l) = BitVec.ofNat 32 (cN (X (n + a) l) (A l)) := by
    intro x n hx a l
    rw [pay19_at, pay10_at iv a l _ (fun p => hiv p l), hx, invOf_eq, cellW_eq]
    dsimp only
    rw [show 2 * (a.val / 2) + a.val % 2 = a.val by omega]
  have hd : ∀ (x : FVec Ideal S1x8x2x128 .bf16) (n : ℕ) (hx : ∀ (s : Fin 8) (p : Fin 2) (l : Fin 128), x (ix4 0 s p l) = X (n + (2 * s + p)) l) (a : Fin 16) (l : Fin 128),
      k0_pay20 (F := Ideal) v8 (k0_pay9 am) (k0_pay10 iv) x (ix2 a l) = if bB (X (n + a) l) (A l) then 4294967295#32 else 0#32 := by
    intro x n hx a l
    have h := cN_lt (X (n + a) l) (A l)
    rw [pay20_at v8 (k0_pay9 am) (k0_pay10 iv) x _ h _ a l (hc x n hx a l) (T.mag a _ h), pay9_at, ham, hx]
    dsimp only
    rw [show 2 * (a.val / 2) + a.val % 2 = a.val by omega, beyW_eq]
  have z : ∀ a : ℕ, 0 + a = a := Nat.zero_add
  refine bytes_pay31 v1 v3 T.held T.final _ _ _ _ (fun p l => cN (X p l) (A l)) (fun p l => bB (X p l) (A l)) (fun a l => cN_lt _ _) ?_ (hc xb 16 hxb) ?_ (hd xb 16 hxb)
  · intro a l; have := hc xa 0 (by simpa only [z] using hxa) a l; simpa only [z] using this
  · intro a l; have := hd xa 0 (by simpa only [z] using hxa) a l; simpa only [z] using this

end Cert.KernelIdeal.Hand
end
-- ==== Proof.Pure6.lean ====
/- One trip of the packing loop: the words of packed bytes it stores, as a function of the block of the input. -/
module

public import proofs.«01_k».proof.Proof.Pure5

@[expose] public section

set_option maxRecDepth 16384
set_option maxHeartbeats 1000000

noncomputable section

namespace Cert.KernelIdeal.Hand

open Cert.KernelIdeal Cert.KernelIdeal.Gen Cert.Code
open Idealize.ShloMosaic Idealize.ShloMosaic.TcCoe
open Idealize.SL.Sem

/-- The word of four bytes, the first the lowest. -/
def wordOf (f : ℕ → BitVec 8) : BitVec 32 := (f 3 ++ f 2 ++ f 1 ++ f 0 : BitVec (8 + 8 + 8 + 8))

theorem wordOf_getLsbD (f : ℕ → BitVec 8) (q : ℕ) (hq : q < 32) : (wordOf f).getLsbD q = (f (q / 8)).getLsbD (q % 8) := by
  unfold wordOf
  simp only [BitVec.getLsbD_append]
  interval_cases q <;> rfl

theorem kc_lt (x am : EReal) : kc x am < 16 := by
  have h : ∀ c < 32, ∀ b : Bool, codeOf c b < 16 := by decide
  exact h _ (cN_lt x am) _

theorem code_high (k : ℕ) (hk : k < 16) (i : ℕ) (hi : 4 ≤ i) : (BitVec.ofNat 8 k).getLsbD i = false := by
  have : k.testBit i = false := Nat.testBit_lt_two_pow (lt_of_lt_of_le hk (by calc 16 = 2 ^ 4 := rfl
    _ ≤ 2 ^ i := Nat.pow_le_pow_right (by decide) hi))
  simp [BitVec.getLsbD_ofNat, this]

/-- The packed byte of half `t`, column pair `κ` of chunk `k`, lane `L`. -/
def pkN (W : S1x256x7168.Idx → EReal) (k t κ L : ℕ) : BitVec 8 :=
  (BitVec.ofNat 8 (kc (xtN W k t κ 0 L) (amN W k t (κ / 32) L)) <<< 4) ||| BitVec.ofNat 8 (kc (xtN W k t κ 1 L) (amN W k t (κ / 32) L))

/-- The table of packed bytes of chunk `k`: a word's bytes are two column pairs, each of both halves. -/
def utG (W : S1x256x7168.Idx → EReal) (k : ℕ) (y : S128x128.Idx) : Elt Ideal .i32 :=
  wordOf fun e => pkN W k (e % 2) (2 * (y 0).val + e / 2) (y 1)

theorem load3 (v : View sig .tc .vmem S2x8x128 .f32) (X : v.ty.Contents (Elt Ideal)) (off : Fin 3 → ℕ)
    (inb : ∀ a, off a + S1x1x128.size a ≤ S2x8x128.size a) (t : Fin 2) (j : Fin 8) (h : off = ![t.val, j.val, 0]) (l : Fin 128) :
    v.readAt (Elt Ideal) (Rect.unit (s := S2x8x128) off S1x1x128.size inb).toLoadRect X (ix3 0 0 l) = v.read (Elt Ideal) X (ix3 t j l) := by
  subst h
  refine congrArg (v.read (Elt Ideal) X) ?_
  funext a; fin_cases a <;> apply Fin.ext
  · show t.val + 1 * 0 = t.val; omega
  · show j.val + 1 * 0 = j.val; omega
  · show 0 + 1 * l.val = l.val; omega

theorem load4 (v : View sig .tc .vmem S2x8x2x128 .bf16) (X : v.ty.Contents (Elt Ideal)) (off : Fin 4 → ℕ)
    (inb : ∀ a, off a + S1x1x2x128.size a ≤ S2x8x2x128.size a) (t : Fin 2) (j : Fin 8) (h : off = ![t.val, j.val, 0, 0]) (p : Fin 2) (l : Fin 128) :
    v.readAt (Elt Ideal) (Rect.unit (s := S2x8x2x128) off S1x1x2x128.size inb).toLoadRect X (ix4 0 0 p l) = v.read (Elt Ideal) X (ix4 t j p l) := by
  subst h
  refine congrArg (v.read (Elt Ideal) X) ?_
  funext a; fin_cases a <;> apply Fin.ext
  · show t.val + 1 * 0 = t.val; omega
  · show j.val + 1 * 0 = j.val; omega
  · show 0 + 1 * p.val = p.val; omega
  · show 0 + 1 * l.val = l.val; omega

theorem load8 (v : View sig .tc .vmem S2x256x2x128 .bf16) (X : v.ty.Contents (Elt Ideal)) (off : Fin 4 → ℕ)
    (inb : ∀ a, off a + S1x8x2x128.size a ≤ S2x256x2x128.size a) (t : Fin 2) (s0 : ℕ) (hs : s0 ≤ 248) (h : off = ![t.val, s0, 0, 0]) (s : Fin 8) (p : Fin 2) (l : Fin 128) :
    v.readAt (Elt Ideal) (Rect.unit (s := S2x256x2x128) off S1x8x2x128.size inb).toLoadRect X (ix4 0 s p l) = v.read (Elt Ideal) X (ix4 t ⟨s0 + s, by omega⟩ p l) := by
  subst h
  refine congrArg (v.read (Elt Ideal) X) ?_
  funext a; fin_cases a <;> apply Fin.ext
  · show t.val + 1 * 0 = t.val; omega
  · show s0 + 1 * s.val = s0 + s.val; omega
  · show 0 + 1 * p.val = p.val; omega
  · show 0 + 1 * l.val = l.val; omega

/-- What the packing loop finds: the tables, and the scratch buffers of chunk `k`. -/
structure Ready (v1 v3 : IVec S32x128 32) (v8 : FVec Ideal S16x128 .f32) (v27 : IVec S32x128 1) (X10 : S2x256x2x128.Idx → EReal) (X12 : S2x8x128.Idx → EReal) (X13 : S2x8x2x128.Idx → EReal)
    (W : S1x256x7168.Idx → EReal) (k : ℕ) : Prop where
  tabs : Tabs v1 v3 v8
  par : v27 = k0_pay331
  xt : ∀ (t : Fin 2) (s : Fin 256) (p : Fin 2) (L : Fin 128), X10 (ix4 t s p L) = xtN W k t s p L
  am : ∀ (t : Fin 2) (j : Fin 8) (L : Fin 128), X12 (ix3 t j L) = amN W k t j L
  inv : ∀ (t : Fin 2) (j : Fin 8) (p : Fin 2) (L : Fin 128), X13 (ix4 t j p L) = invOf (amN W k t j L)

/-- The codes of half `t` that store `r` of trip `j` packs. -/
theorem code_at (v1 v3 : IVec S32x128 32) (v8 : FVec Ideal S16x128 .f32) (v27 : IVec S32x128 1)
    (v10 : View sig .tc .vmem S2x256x2x128 .bf16) (X10 : v10.ty.Contents (Elt Ideal)) (v12 : View sig .tc .vmem S2x8x128 .f32) (X12 : v12.ty.Contents (Elt Ideal))
    (v13 : View sig .tc .vmem S2x8x2x128 .bf16) (X13 : v13.ty.Contents (Elt Ideal)) (W : S1x256x7168.Idx → EReal) (k : ℕ)
    (hR : Ready v1 v3 v8 v27 (v10.read (Elt Ideal) X10) (v12.read (Elt Ideal) X12) (v13.read (Elt Ideal) X13) W k)
    (t : Fin 2) (j : Fin 8) (r : Fin 2) (o12 : Fin 3 → ℕ) (o13 oa ob : Fin 4 → ℕ) (i12) (i13) (ia) (ib)
    (h12 : o12 = ![t.val, j.val, 0]) (h13 : o13 = ![t.val, j.val, 0, 0]) (ha : oa = ![t.val, 32 * j.val + 8 * (2 * r.val), 0, 0]) (hb : ob = ![t.val, 32 * j.val + 8 * (2 * r.val + 1), 0, 0]) :
    Bytes (code31 v1 v3 v8 (v12.readAt (Elt Ideal) (Rect.unit (s := S2x8x128) o12 S1x1x128.size i12).toLoadRect X12)
        (v13.readAt (Elt Ideal) (Rect.unit (s := S2x8x2x128) o13 S1x1x2x128.size i13).toLoadRect X13)
        (v10.readAt (Elt Ideal) (Rect.unit (s := S2x256x2x128) oa S1x8x2x128.size ia).toLoadRect X10)
        (v10.readAt (Elt Ideal) (Rect.unit (s := S2x256x2x128) ob S1x8x2x128.size ib).toLoadRect X10))
      (fun p l => BitVec.ofNat 8 (kc (xtN W k t (32 * j + 16 * r + p / 2) (p % 2) l) (amN W k t j l))) := by
  refine bytes_code31 v1 v3 v8 hR.tabs _ _ _ _ (fun l => amN W k t j l) (fun p l => xtN W k t (32 * j + 16 * r + p / 2) (p % 2) l) ?_ ?_ ?_ ?_
  · intro l; exact (load3 v12 X12 _ _ t j h12 l).trans (hR.am _ _ _)
  · intro p l; exact (load4 v13 X13 _ _ t j h13 p l).trans (hR.inv _ _ _ _)
  · intro s p l; refine (load8 v10 X10 _ _ t _ (by omega) ha s p l).trans ((hR.xt _ _ _ _).trans ?_)
    dsimp only; congr 1 <;> omega
  · intro s p l; refine (load8 v10 X10 _ _ t _ (by omega) hb s p l).trans ((hR.xt _ _ _ _).trans ?_)
    dsimp only; congr 1 <;> omega

theorem ut_at (v1 v3 : IVec S32x128 32) (v8 : FVec Ideal S16x128 .f32) (v27 : IVec S32x128 1)
    (v10 : View sig .tc .vmem S2x256x2x128 .bf16) (X10 : v10.ty.Contents (Elt Ideal)) (v12 : View sig .tc .vmem S2x8x128 .f32) (X12 : v12.ty.Contents (Elt Ideal))
    (v13 : View sig .tc .vmem S2x8x2x128 .bf16) (X13 : v13.ty.Contents (Elt Ideal)) (W : S1x256x7168.Idx → EReal) (k : ℕ)
    (hR : Ready v1 v3 v8 v27 (v10.read (Elt Ideal) X10) (v12.read (Elt Ideal) X12) (v13.read (Elt Ideal) X13) W k)
    (j : Fin 8) (r : Fin 2) (o12 : Fin 3 → ℕ) (o13 oa ob : Fin 4 → ℕ) (i12) (i13) (ia) (ib) (o12' : Fin 3 → ℕ) (o13' oa' ob' : Fin 4 → ℕ) (i12') (i13') (ia') (ib')
    (P : IVec S8x128 32) (hP : P = k0_pay130 v27
      (code31 v1 v3 v8 (v12.readAt (Elt Ideal) (Rect.unit (s := S2x8x128) o12 S1x1x128.size i12).toLoadRect X12)
        (v13.readAt (Elt Ideal) (Rect.unit (s := S2x8x2x128) o13 S1x1x2x128.size i13).toLoadRect X13)
        (v10.readAt (Elt Ideal) (Rect.unit (s := S2x256x2x128) oa S1x8x2x128.size ia).toLoadRect X10)
        (v10.readAt (Elt Ideal) (Rect.unit (s := S2x256x2x128) ob S1x8x2x128.size ib).toLoadRect X10))
      (code31 v1 v3 v8 (v12.readAt (Elt Ideal) (Rect.unit (s := S2x8x128) o12' S1x1x128.size i12').toLoadRect X12)
        (v13.readAt (Elt Ideal) (Rect.unit (s := S2x8x2x128) o13' S1x1x2x128.size i13').toLoadRect X13)
        (v10.readAt (Elt Ideal) (Rect.unit (s := S2x256x2x128) oa' S1x8x2x128.size ia').toLoadRect X10)
        (v10.readAt (Elt Ideal) (Rect.unit (s := S2x256x2x128) ob' S1x8x2x128.size ib').toLoadRect X10)))
    (h12 : o12 = ![0, j.val, 0]) (h13 : o13 = ![0, j.val, 0, 0]) (ha : oa = ![0, 32 * j.val + 8 * (2 * r.val), 0, 0]) (hb : ob = ![0, 32 * j.val + 8 * (2 * r.val + 1), 0, 0])
    (h12' : o12' = ![1, j.val, 0]) (h13' : o13' = ![1, j.val, 0, 0]) (ha' : oa' = ![1, 32 * j.val + 8 * (2 * r.val), 0, 0]) (hb' : ob' = ![1, 32 * j.val + 8 * (2 * r.val + 1), 0, 0])
    (a : Fin 8) (l : Fin 128) (off : Fin 2 → ℕ) (hoff : off = ![16 * j.val + 8 * r.val, 0]) (inb) :
    P (ix2 a l) = utG W k ((Rect.unit (s := S128x128) off ![8, 128] inb).emb (ix2 a l)) := by
  subst hP hoff
  have hv := hR.par
  have hA := code_at v1 v3 v8 v27 v10 X10 v12 X12 v13 X13 W k hR 0 j r o12 o13 oa ob i12 i13 ia ib h12 h13 ha hb
  have hB := code_at v1 v3 v8 v27 v10 X10 v12 X12 v13 X13 W k hR 1 j r o12' o13' oa' ob' i12' i13' ia' ib' h12' h13' ha' hb'
  rw [hv]
  have hp := bytes_pay130 _ _ _ _ hA hB (fun p l i hi => code_high _ (kc_lt _ _) i hi) (fun p l i hi => code_high _ (kc_lt _ _) i hi)
  apply BitVec.eq_of_getLsbD_eq
  intro q hq
  rw [hp a l q hq]
  have hu : utG W k ((Rect.unit (s := S128x128) ![16 * j.val + 8 * r.val, 0] ![8, 128] inb).emb (ix2 a l))
    = wordOf fun e => pkN W k (e % 2) (2 * (16 * j.val + 8 * r.val + a.val) + e / 2) l := by
    show (wordOf fun e => pkN W k (e % 2) (2 * (16 * j.val + 8 * r.val + 1 * a.val) + e / 2) (0 + 1 * l.val)) = _
    rw [Nat.zero_add, Nat.one_mul, Nat.one_mul]
  rw [hu, wordOf_getLsbD _ q hq]
  congr 1
  have hq8 : q / 8 < 4 := by omega
  generalize q / 8 = e at hq8
  unfold packOf pkN
  have e1 : 2 * (16 * j.val + 8 * r.val + a.val) + e / 2 = 32 * j.val + 16 * r.val + (4 * a.val + e) / 2 := by omega
  have e2 : (32 * j.val + 16 * r.val + (4 * a.val + e) / 2) / 32 = j.val := by omega
  have e3 : 2 * ((4 * a.val + e) / 2) / 2 = (4 * a.val + e) / 2 := by omega
  have e4 : (2 * ((4 * a.val + e) / 2) + 1) / 2 = (4 * a.val + e) / 2 := by omega
  have e5 : 2 * ((4 * a.val + e) / 2) % 2 = 0 := by omega
  have e6 : (2 * ((4 * a.val + e) / 2) + 1) % 2 = 1 := by omega
  have e7 : (4 * a.val + e) % 2 = e % 2 := by omega
  simp only [e1, e2, e3, e4, e5, e6, e7]
  rcases Nat.mod_two_eq_zero_or_one e with h | h
  · rw [if_pos h, h]; rfl
  · rw [if_neg (by omega), h]; rfl

theorem ut_at2 (v1 v3 : IVec S32x128 32) (v8 : FVec Ideal S16x128 .f32) (v27 : IVec S32x128 1)
    (v10 : View sig .tc .vmem S2x256x2x128 .bf16) (X10 : v10.ty.Contents (Elt Ideal)) (v12 : View sig .tc .vmem S2x8x128 .f32) (X12 : v12.ty.Contents (Elt Ideal))
    (v13 : View sig .tc .vmem S2x8x2x128 .bf16) (X13 : v13.ty.Contents (Elt Ideal)) (W : S1x256x7168.Idx → EReal) (k : ℕ)
    (hR : Ready v1 v3 v8 v27 (v10.read (Elt Ideal) X10) (v12.read (Elt Ideal) X12) (v13.read (Elt Ideal) X13) W k)
    (j : Fin 8) (r : Fin 2) (o12 : Fin 3 → ℕ) (o13 oa ob : Fin 4 → ℕ) (i12) (i13) (ia) (ib) (o12' : Fin 3 → ℕ) (o13' oa' ob' : Fin 4 → ℕ) (i12') (i13') (ia') (ib')
    (P A A' : IVec S8x128 32) (c0 d0 c1 d1 c0' d0' c1' d1' : IVec S16x128 32) (hP : P = k0_pay130 v27 A A')
    (hA : A = k0_pay31 v1 v3 c0 d0 c1 d1)
    (hc0 : c0 = k0_pay19 (F := Ideal) (k0_pay10 (v13.readAt (Elt Ideal) (Rect.unit (s := S2x8x2x128) o13 S1x1x2x128.size i13).toLoadRect X13)) (v10.readAt (Elt Ideal) (Rect.unit (s := S2x256x2x128) oa S1x8x2x128.size ia).toLoadRect X10))
    (hd0 : d0 = k0_pay20 (F := Ideal) v8 (k0_pay9 (v12.readAt (Elt Ideal) (Rect.unit (s := S2x8x128) o12 S1x1x128.size i12).toLoadRect X12)) (k0_pay10 (v13.readAt (Elt Ideal) (Rect.unit (s := S2x8x2x128) o13 S1x1x2x128.size i13).toLoadRect X13)) (v10.readAt (Elt Ideal) (Rect.unit (s := S2x256x2x128) oa S1x8x2x128.size ia).toLoadRect X10))
    (hc1 : c1 = k0_pay19 (F := Ideal) (k0_pay10 (v13.readAt (Elt Ideal) (Rect.unit (s := S2x8x2x128) o13 S1x1x2x128.size i13).toLoadRect X13)) (v10.readAt (Elt Ideal) (Rect.unit (s := S2x256x2x128) ob S1x8x2x128.size ib).toLoadRect X10))
    (hd1 : d1 = k0_pay20 (F := Ideal) v8 (k0_pay9 (v12.readAt (Elt Ideal) (Rect.unit (s := S2x8x128) o12 S1x1x128.size i12).toLoadRect X12)) (k0_pay10 (v13.readAt (Elt Ideal) (Rect.unit (s := S2x8x2x128) o13 S1x1x2x128.size i13).toLoadRect X13)) (v10.readAt (Elt Ideal) (Rect.unit (s := S2x256x2x128) ob S1x8x2x128.size ib).toLoadRect X10))
    (hA' : A' = k0_pay31 v1 v3 c0' d0' c1' d1')
    (hc0' : c0' = k0_pay19 (F := Ideal) (k0_pay10 (v13.readAt (Elt Ideal) (Rect.unit (s := S2x8x2x128) o13' S1x1x2x128.size i13').toLoadRect X13)) (v10.readAt (Elt Ideal) (Rect.unit (s := S2x256x2x128) oa' S1x8x2x128.size ia').toLoadRect X10))
    (hd0' : d0' = k0_pay20 (F := Ideal) v8 (k0_pay9 (v12.readAt (Elt Ideal) (Rect.unit (s := S2x8x128) o12' S1x1x128.size i12').toLoadRect X12)) (k0_pay10 (v13.readAt (Elt Ideal) (Rect.unit (s := S2x8x2x128) o13' S1x1x2x128.size i13').toLoadRect X13)) (v10.readAt (Elt Ideal) (Rect.unit (s := S2x256x2x128) oa' S1x8x2x128.size ia').toLoadRect X10))
    (hc1' : c1' = k0_pay19 (F := Ideal) (k0_pay10 (v13.readAt (Elt Ideal) (Rect.unit (s := S2x8x2x128) o13' S1x1x2x128.size i13').toLoadRect X13)) (v10.readAt (Elt Ideal) (Rect.unit (s := S2x256x2x128) ob' S1x8x2x128.size ib').toLoadRect X10))
    (hd1' : d1' = k0_pay20 (F := Ideal) v8 (k0_pay9 (v12.readAt (Elt Ideal) (Rect.unit (s := S2x8x128) o12' S1x1x128.size i12').toLoadRect X12)) (k0_pay10 (v13.readAt (Elt Ideal) (Rect.unit (s := S2x8x2x128) o13' S1x1x2x128.size i13').toLoadRect X13)) (v10.readAt (Elt Ideal) (Rect.unit (s := S2x256x2x128) ob' S1x8x2x128.size ib').toLoadRect X10))
    (h12 : o12 = ![0, j.val, 0]) (h13 : o13 = ![0, j.val, 0, 0]) (ha : oa = ![0, 32 * j.val + 8 * (2 * r.val), 0, 0]) (hb : ob = ![0, 32 * j.val + 8 * (2 * r.val + 1), 0, 0])
    (h12' : o12' = ![1, j.val, 0]) (h13' : o13' = ![1, j.val, 0, 0]) (ha' : oa' = ![1, 32 * j.val + 8 * (2 * r.val), 0, 0]) (hb' : ob' = ![1, 32 * j.val + 8 * (2 * r.val + 1), 0, 0])
    (a : Fin 8) (l : Fin 128) (off : Fin 2 → ℕ) (hoff : off = ![16 * j.val + 8 * r.val, 0]) (inb) :
    P (ix2 a l) = utG W k ((Rect.unit (s := S128x128) off ![8, 128] inb).emb (ix2 a l)) := by
  subst hc0 hd0 hc1 hd1 hc0' hd0' hc1' hd1' hA hA'
  exact ut_at v1 v3 v8 v27 v10 X10 v12 X12 v13 X13 W k hR j r o12 o13 oa ob i12 i13 ia ib o12' o13' oa' ob' i12' i13' ia' ib' P hP h12 h13 ha hb h12' h13' ha' hb' a l off hoff inb

/-- The last comparison's selection. -/
def sel55 (a x : FVec Ideal S16x128 .f32) (c b : IVec S16x128 1) : IVec S16x128 32 :=
  select (select c b (cmpf (F := Ideal) .ogt x a)) (broadcast S16x128 4294967295#32) (broadcast S16x128 0#32)

theorem pay55_form (v1 v3 : IVec S32x128 32) (c0 d0 c1 : IVec S16x128 32) (a x : FVec Ideal S16x128 .f32) (c b : IVec S16x128 1) :
    k0_pay55 (F := Ideal) v1 v3 c0 d0 c1 a x c b = k0_pay31 v1 v3 c0 d0 c1 (sel55 a x c b) := rfl

theorem pay54_form (v1 v3 : IVec S32x128 32) (c0 d0 c1 d1 : IVec S16x128 32) :
    k0_pay54 v1 v3 c0 d0 c1 d1 = k0_pay31 v1 v3 c0 d0 c1 d1 := rfl

theorem ut_mem (R L : Fin 128) (j r : ℕ) (off : Fin 2 → ℕ) (hoff : off = ![16 * j + 8 * r, 0]) (inb)
    (h1 : 16 * j + 8 * r ≤ R.val) (h2 : R.val < 16 * j + 8 * r + 8) : ix2 R L ∈ (Rect.unit (s := S128x128) off S8x128.size inb).set := by
  subst hoff
  rw [Rect.mem_set_unit]
  intro a; fin_cases a
  · show 16 * j + 8 * r ≤ R.val ∧ R.val < 16 * j + 8 * r + 8; omega
  · show 0 ≤ L.val ∧ L.val < 0 + 128; omega

theorem ut_not_mem (R L : Fin 128) (j r : ℕ) (off : Fin 2 → ℕ) (hoff : off = ![16 * j + 8 * r, 0]) (inb)
    (h1 : R.val < 16 * j) : ix2 R L ∉ (Rect.unit (s := S128x128) off S8x128.size inb).set := by
  subst hoff
  rw [Rect.mem_set_unit]
  intro h
  have := (h 0).1
  change 16 * j + 8 * r ≤ R.val at this
  omega

end Cert.KernelIdeal.Hand
end
-- ==== Proof.Pure7.lean ====
/- From the table of packed bytes to the result's block: a transposition of half words, then each half's bytes. -/
module

public import proofs.«01_k».proof.Proof.Pure6

@[expose] public section

set_option maxRecDepth 16384
set_option maxHeartbeats 1000000

noncomputable section

namespace Cert.KernelIdeal.Hand

open Cert.KernelIdeal Cert.KernelIdeal.Gen Cert.Code
open Idealize.ShloMosaic Idealize.ShloMosaic.TcCoe
open Idealize.SL.Sem

/-- Words read back as half words. -/
theorem halves_getLsbD {R r n : ℕ} (x : (⟨2, ![r, n]⟩ : Shape).Idx → BitVec 32) (h : (⟨2, ![r, n]⟩ : Shape).Bitcasts 32 ⟨2, ![R, n]⟩ 16)
    (p : Fin R) (l : Fin n) (q : ℕ) (hq : q < 16) (a : Fin r) (ha : a.val = p.val / 2) :
    (bitcast ⟨2, ![R, n]⟩ 16 x h (ValueIdx.ix2 p l)).getLsbD q = (x (ValueIdx.ix2 a l)).getLsbD (16 * (p.val % 2) + q) := by
  rw [bitcast_getLsbD x h _ q hq (by decide)]
  have e2 : (Shape.row (⟨2, ![R, n]⟩ : Shape) (ValueIdx.ix2 p l) * 16 + q) % 32 = 16 * (p.val % 2) + q := by
    show (p.val * 16 + q) % 32 = _
    omega
  rw [e2]
  congr 2
  funext c
  match c with
  | ⟨0, _⟩ =>
    refine Fin.ext ((h.srcIdx_row _ _ _ ⟨0, Nat.zero_lt_two⟩ rfl).trans ?_)
    show (p.val * 16 + q) / 32 = a.val
    omega
  | ⟨1, _⟩ => exact Fin.ext (h.srcIdx_other _ _ _ ⟨1, Nat.one_lt_two⟩ (by show ¬ 1 + 2 = 2; omega))

/-- Half words read as words. -/
theorem words_getLsbD {R r n : ℕ} (x : (⟨2, ![R, n]⟩ : Shape).Idx → BitVec 16) (h : (⟨2, ![R, n]⟩ : Shape).Bitcasts 16 ⟨2, ![r, n]⟩ 32)
    (p : Fin r) (l : Fin n) (q : ℕ) (hq : q < 32) (a : Fin R) (ha : a.val = 2 * p.val + q / 16) :
    (bitcast ⟨2, ![r, n]⟩ 32 x h (ValueIdx.ix2 p l)).getLsbD q = (x (ValueIdx.ix2 a l)).getLsbD (q % 16) := by
  rw [bitcast_getLsbD x h _ q hq (by decide)]
  have e2 : (Shape.row (⟨2, ![r, n]⟩ : Shape) (ValueIdx.ix2 p l) * 32 + q) % 16 = q % 16 := by
    show (p.val * 32 + q) % 16 = _
    omega
  rw [e2]
  congr 2
  funext c
  match c with
  | ⟨0, _⟩ =>
    refine Fin.ext ((h.srcIdx_row _ _ _ ⟨0, Nat.zero_lt_two⟩ rfl).trans ?_)
    show (p.val * 32 + q) / 16 = a.val
    omega
  | ⟨1, _⟩ => exact Fin.ext (h.srcIdx_other _ _ _ ⟨1, Nat.one_lt_two⟩ (by show ¬ 1 + 2 = 2; omega))

theorem pay131_getLsbD (v : Vec Ideal S64x128 .i32) (R : Fin 64) (κ : Fin 128) (q : ℕ) (hq : q < 32) :
    (k0_pay131 (F := Ideal) v (ix2 R κ)).getLsbD q = (v (ix2 ⟨κ / 2, by omega⟩ ⟨2 * R + q / 16, by omega⟩) : BitVec 32).getLsbD (16 * (κ.val % 2) + q % 16) := by
  have e : k0_pay131 (F := Ideal) v = bitcast S64x128 32 (transpose S128x128 [1, 0] (bitcast S128x128 16 (v : IVec S64x128 32) bitcasts_S64x128_w32_S128x128_w16) transposes_S128x128_p1_0_S128x128) bitcasts_S128x128_w16_S64x128_w32 := rfl
  rw [e]
  have ht : ∀ a : Fin 128, transpose S128x128 [1, 0] (bitcast S128x128 16 (v : IVec S64x128 32) bitcasts_S64x128_w32_S128x128_w16) transposes_S128x128_p1_0_S128x128 (ix2 a κ)
      = bitcast S128x128 16 (v : IVec S64x128 32) bitcasts_S64x128_w32_S128x128_w16 (ix2 κ a) := by
    intro a; pointwise
  have hb := fun a => halves_getLsbD (R := 128) (r := 64) (n := 128) (v : IVec S64x128 32) bitcasts_S64x128_w32_S128x128_w16 κ a (q % 16) (Nat.mod_lt _ (by decide)) ⟨κ / 2, by omega⟩ rfl
  generalize bitcast S128x128 16 (v : IVec S64x128 32) bitcasts_S64x128_w32_S128x128_w16 = u at ht hb ⊢
  generalize transpose S128x128 [1, 0] u transposes_S128x128_p1_0_S128x128 = w at ht ⊢
  refine (words_getLsbD (R := 128) (r := 64) (n := 128) w bitcasts_S128x128_w16_S64x128_w32 R κ q hq ⟨2 * R + q / 16, by omega⟩ rfl).trans ?_
  exact (congrArg (fun z : BitVec 16 => z.getLsbD (q % 16)) (ht _)).trans (hb _)

theorem pay146_getLsbD (w : IVec S8x128 32) (z : Fin 1) (b : Fin 32) (κ : Fin 128) (q : ℕ) (hq : q < 8) :
    (k0_pay146 w (ix3 z b κ)).getLsbD q = (w (ix2 ⟨b % 16 / 2, by omega⟩ κ)).getLsbD (16 * (b % 16 % 2) + 8 * (b / 16) + q) := by
  obtain rfl : z = 0 := Subsingleton.elim _ _
  have h16 : ∀ (r : Fin 16) (i : ℕ), i < 16 → (bitcast S16x128 16 w bitcasts_S8x128_w32_S16x128_w16 (ix2 r κ)).getLsbD i
      = (w (ix2 ⟨r / 2, by omega⟩ κ)).getLsbD (16 * (r.val % 2) + i) := fun r i hi =>
    halves_getLsbD w bitcasts_S8x128_w32_S16x128_w16 r κ i hi ⟨r / 2, by omega⟩ rfl
  unfold k0_pay146
  generalize bitcast S16x128 16 w bitcasts_S8x128_w32_S16x128_w16 = u at h16
  have hs : ∀ x : BitVec 16, IntOp.shrsi .vector x 8#16 = x.sshiftRight 8 := fun x => rfl
  by_cases hb : b.val < 16
  · have e : (b.val % 16) = b.val := by omega
    have e0 : b.val / 16 = 0 := by omega
    have hx : (BitVec.setWidth 8 (u (ix2 ⟨b.val, hb⟩ κ))).getLsbD q = (w (ix2 ⟨b % 16 / 2, by omega⟩ κ)).getLsbD (16 * (b % 16 % 2) + 8 * (b / 16) + q) := by
      rw [BitVec.getLsbD_setWidth, h16 _ q (by omega)]
      simp only [e, e0, hq, decide_true, Bool.true_and]
      congr 1
    rw [← hx]
    congr 1
    pointwise
    exact dif_pos hb
  · have e : (b.val % 16) = b.val - 16 := by omega
    have e0 : b.val / 16 = 1 := by omega
    have hx : (BitVec.setWidth 8 (IntOp.shrsi .vector (u (ix2 ⟨b.val - 16, by omega⟩ κ)) 8#16)).getLsbD q = (w (ix2 ⟨b % 16 / 2, by omega⟩ κ)).getLsbD (16 * (b % 16 % 2) + 8 * (b / 16) + q) := by
      rw [hs, BitVec.getLsbD_setWidth, BitVec.getLsbD_sshiftRight]
      have h1 : 8 + q < 16 := by omega
      have h2 : ¬ 16 ≤ q := by omega
      rw [h16 _ (8 + q) h1]
      simp only [e, e0, hq, h1, h2, decide_true, decide_false, Bool.not_false, Bool.true_and, if_true]
      congr 1; omega
    rw [← hx]
    congr 1
    pointwise
    exact dif_neg hb

/-- The result's block: row `r`, column `c`. -/
def packN (W : S1x256x7168.Idx → EReal) (r c : ℕ) : BitVec 8 := pkN W (c / 256) (r % 32 / 16) (c % 256) (16 * (r / 32) + r % 16)

def packG (W : S1x256x7168.Idx → EReal) (y : S1x256x3584.Idx) : Elt Ideal .i8 := packN W (y 1) (y 2)

theorem slab_at (v14 : View sig .tc .vmem S128x128 .i32) (f : v14.ty.Contents (Elt Ideal)) (W : S1x256x7168.Idx → EReal) (k : ℕ)
    (h14 : ∀ R L : Fin 128, v14.read (Elt Ideal) f (ix2 R L) = utG W k (ix2 R L))
    (h : Fin 2) (g : Fin 8) (o : Fin 2 → ℕ) (io) (ho : o = ![64 * h.val, 0]) (sl)
    (P : IVec S1x32x128 8) (hP : P = k0_pay146 (extractStridedSlice S8x128 ![8 * g.val, 0] (k0_pay131 (F := Ideal)
      (v14.readAt (Elt Ideal) (Rect.unit (s := S128x128) o S64x128.size io).toLoadRect f)) sl))
    (z : Fin 1) (b : Fin 32) (κ : Fin 128) (off : Fin 3 → ℕ) (hoff : off = ![0, 32 * g.val, 256 * k + 128 * h.val]) (inb) :
    P (ix3 z b κ) = packG W ((Rect.unit (s := S1x256x3584) off ![1, 32, 128] inb).emb (ix3 z b κ)) := by
  subst hP hoff ho
  apply BitVec.eq_of_getLsbD_eq
  intro q hq
  rw [pay146_getLsbD _ z b κ q hq]
  have hsl : ∀ (x : IVec S64x128 32) (a : Fin 8), extractStridedSlice S8x128 ![8 * g.val, 0] x sl (ix2 a κ) = x (ix2 ⟨8 * g.val + a, by omega⟩ κ) := by
    intro x a
    refine congrArg x ?_
    funext c; fin_cases c <;> apply Fin.ext
    · show 8 * g.val + a.val = _; rfl
    · show 0 + κ.val = κ.val; omega
  have hl : ∀ (a : Fin 64) (L : Fin 128), v14.readAt (Elt Ideal) (Rect.unit (s := S128x128) ![64 * h.val, 0] S64x128.size io).toLoadRect f (ix2 a L)
      = utG W k (ix2 ⟨64 * h.val + a, by omega⟩ L) := by
    intro a L
    refine Eq.trans (congrArg (v14.read (Elt Ideal) f) ?_) (h14 _ _)
    funext c; fin_cases c <;> apply Fin.ext
    · show 64 * h.val + 1 * a.val = 64 * h.val + a.val; omega
    · show 0 + 1 * L.val = L.val; omega
  rw [hsl, pay131_getLsbD _ _ _ _ (by omega), hl]
  have hu : packG W ((Rect.unit (s := S1x256x3584) ![0, 32 * g.val, 256 * k + 128 * h.val] ![1, 32, 128] inb).emb (ix3 z b κ))
      = packN W (32 * g.val + 1 * b.val) (256 * k + 128 * h.val + 1 * κ.val) := rfl
  rw [hu]
  unfold packN
  have hκ := κ.isLt
  have hb := b.isLt
  have hh := h.isLt
  have hg := g.isLt
  refine (wordOf_getLsbD _ _ (by omega)).trans ?_
  have e1 : (256 * k + 128 * h.val + 1 * κ.val) / 256 = k := by omega
  have e2 : (256 * k + 128 * h.val + 1 * κ.val) % 256 = 128 * h.val + κ.val := by omega
  have e3 : (32 * g.val + 1 * b.val) % 32 / 16 = b.val / 16 := by omega
  have e4 : 16 * ((32 * g.val + 1 * b.val) / 32) + (32 * g.val + 1 * b.val) % 16 = 16 * g.val + b.val % 16 := by omega
  rw [e1, e2, e3, e4]
  have i0 : (16 * (b.val % 16 % 2) + 8 * (b.val / 16) + q) % 16 = 8 * (b.val / 16) + q := by omega
  have i1 : (16 * (b.val % 16 % 2) + 8 * (b.val / 16) + q) / 16 = b.val % 16 % 2 := by omega
  have i2 : (16 * (κ.val % 2) + (8 * (b.val / 16) + q)) / 8 = 2 * (κ.val % 2) + b.val / 16 := by omega
  have i3 : (16 * (κ.val % 2) + (8 * (b.val / 16) + q)) % 8 = q := by omega
  have i4 : (2 * (κ.val % 2) + b.val / 16) % 2 = b.val / 16 := by omega
  have i5 : 2 * (64 * h.val + κ.val / 2) + (2 * (κ.val % 2) + b.val / 16) / 2 = 128 * h.val + κ.val := by omega
  have i6 : 2 * (8 * g.val + b.val % 16 / 2) + b.val % 16 % 2 = 16 * g.val + b.val % 16 := by omega
  simp only [i0, i1, i2, i3]
  show (pkN W k ((2 * (κ.val % 2) + b.val / 16) % 2) (2 * (64 * h.val + κ.val / 2) + (2 * (κ.val % 2) + b.val / 16) / 2) (2 * (8 * g.val + b.val % 16 / 2) + b.val % 16 % 2)).getLsbD q = _
  rw [i4, i5, i6]

theorem slab_mem (r : Fin 256) (c : Fin 3584) (k h g : ℕ) (off : Fin 3 → ℕ) (hoff : off = ![0, 32 * g, 256 * k + 128 * h]) (inb)
    (h1 : r.val / 32 = g) (h2 : c.val / 128 = 2 * k + h) : ix3 0 r c ∈ (Rect.unit (s := S1x256x3584) off S1x32x128.size inb).set := by
  subst hoff
  rw [Rect.mem_set_unit]
  intro a; fin_cases a
  · show 0 ≤ 0 ∧ 0 < 0 + 1; omega
  · show 32 * g ≤ r.val ∧ r.val < 32 * g + 32; omega
  · show 256 * k + 128 * h ≤ c.val ∧ c.val < 256 * k + 128 * h + 128; omega

theorem slab_not_mem (r : Fin 256) (c : Fin 3584) (k h g : ℕ) (off : Fin 3 → ℕ) (hoff : off = ![0, 32 * g, 256 * k + 128 * h]) (inb)
    (h1 : c.val < 256 * k) : ix3 0 r c ∉ (Rect.unit (s := S1x256x3584) off S1x32x128.size inb).set := by
  subst hoff
  rw [Rect.mem_set_unit]
  intro h'
  have := (h' 2).1
  change 256 * k + 128 * h ≤ c.val at this
  omega

theorem pay136_form (v : Vec Ideal S64x128 .i32) :
    k0_pay136 (k0_pay134 (F := Ideal) v) (k0_pay135 (F := Ideal) v)
      = k0_pay146 (extractStridedSlice S8x128 ![8 * (1 : Fin 8).val, 0] (k0_pay131 (F := Ideal) v) slices_S64x128_o8_0_S8x128) := by
  unfold k0_pay134 k0_pay135 k0_pay136 k0_pay133 k0_pay146
  rfl

end Cert.KernelIdeal.Hand
end
-- ==== Proof.ValPack.lean ====
/- The packing loop over the ideal reading: after `j` trips the table of packed bytes holds the first sixteen rows of each trip. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

public import Idealize.ShloMosaic.Lib.Pointwise
public import proofs.«01_k».proof.Proof.Pure6
@[expose] public section

set_option maxRecDepth 16384
set_option maxHeartbeats 600000

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option warn.classDefReducibility false

/-- The packing loop, its table's rows as far as the trips have come. -/
@[sl_loop] def loopInv_k0_t2 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (v1 : IVec S32x128 32) (v3 : IVec S32x128 32) (v8 : FVec Ideal S16x128 .f32) (v27 : IVec S32x128 1) (k0_t1 : Fin k0_t1_loop.trips) (arg19 : BitVec 32) (v916 : FVec Ideal S8x128 .f32) (v927 : IVec S8x128 1) (cst_520 : Ideal .f32) (X_arg10 : BufTy.Contents (Elt Ideal) arg10.view.ty) (X_arg12 : BufTy.Contents (Elt Ideal) arg12.view.ty) (X_arg13 : BufTy.Contents (Elt Ideal) arg13.view.ty) :
    LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v8 v27 k0_t1 arg19 v916 v927 cst_520 where
  inv := fun j acc => iprop((arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (∃ f, ⌜∀ (W : S1x256x7168.Idx → EReal), Ready v1 v3 v8 v27 (arg10.view.read (Elt Ideal) X_arg10) (arg12.view.read (Elt Ideal) X_arg12) (arg13.view.read (Elt Ideal) X_arg13) W k0_t1 → ∀ (R L : Fin 128), R.val < 16 * j → arg14.view.read (Elt Ideal) f (ix2 R L) = utG W k0_t1 (ix2 R L)⌝ ∗ (arg14.view.loc (c : Thread nD τ) ↦[arg14.view.set]{fullShare} f)))
  step j acc := by
    have hk : j.val < 8 := Nat.lt_of_lt_of_le j.isLt k0_t2_abs.2.1
    iintro ⟨HR_arg10, HR_arg12, HR_arg13, ⟨%f_arg14, %hinv, HW_arg14⟩⟩
    unfold k0_t2_body
    sl_exec
    generalize hf14 : arg14.view.writes (Elt Ideal) f_arg14 _ = f14
    have h14 : ∀ (W : S1x256x7168.Idx → EReal), Ready v1 v3 v8 v27 (arg10.view.read (Elt Ideal) X_arg10) (arg12.view.read (Elt Ideal) X_arg12) (arg13.view.read (Elt Ideal) X_arg13) W k0_t1 → ∀ (R L : Fin 128), R.val < 16 * (j.val + 1) → arg14.view.read (Elt Ideal) f14 (ix2 R L) = utG W k0_t1 (ix2 R L) := by
      intro W hR R L hr
      subst hf14
      by_cases hlt : R.val < 16 * j.val
      · rw [View.read_writes_apply_of_forall_not_mem]
        · exact hinv W hR R L hlt
        · simp only [List.forall_mem_cons, List.not_mem_nil, false_implies, implies_true, _root_.and_true]
          exact ⟨ut_not_mem R L j 1 _ (k0_off25_eq j 1) _ hlt, ut_not_mem R L j 0 _ (k0_off25_eq j 0) _ hlt⟩
      · refine (View.read_writes_apply_of_pieces arg14.view _ (utG W k0_t1) _ ?_ (ix2 R L) ?_)
        · simp only [List.forall_mem_cons, List.not_mem_nil, false_implies, implies_true, _root_.and_true]
          refine ⟨?_, ?_⟩
          all_goals intro x; idx_vars x
          · exact ut_at2 v1 v3 v8 v27 arg10.view X_arg10 arg12.view X_arg12 arg13.view X_arg13 W k0_t1 hR ⟨j.val, hk⟩ 1 _ _ _ _ (k0_off19_inb j) (k0_off20_inb j) (k0_off21_inb j 2) (k0_off21_inb j 3) _ _ _ _ (k0_off22_inb j) (k0_off23_inb j) (k0_off24_inb j 2) (k0_off24_inb j 3) _ _ _ _ _ _ _ _ _ _ _ rfl rfl rfl rfl rfl rfl (pay55_form _ _ _ _ _ _ _ _ _) rfl rfl rfl rfl
              (k0_off19_eq j) (k0_off20_eq j) (k0_off21_eq j 2) (k0_off21_eq j 3) (k0_off22_eq j) (k0_off23_eq j) (k0_off24_eq j 2) (k0_off24_eq j 3) x0 x1 _ (k0_off25_eq j 1) _
          · exact ut_at2 v1 v3 v8 v27 arg10.view X_arg10 arg12.view X_arg12 arg13.view X_arg13 W k0_t1 hR ⟨j.val, hk⟩ 0 _ _ _ _ (k0_off19_inb j) (k0_off20_inb j) (k0_off21_inb j 0) (k0_off21_inb j 1) _ _ _ _ (k0_off22_inb j) (k0_off23_inb j) (k0_off24_inb j 0) (k0_off24_inb j 1) _ _ _ _ _ _ _ _ _ _ _ (pay129_eq _ _ _) rfl rfl rfl rfl rfl (pay54_form _ _ _ _ _ _) rfl rfl rfl rfl
              (k0_off19_eq j) (k0_off20_eq j) (k0_off21_eq j 0) (k0_off21_eq j 1) (k0_off22_eq j) (k0_off23_eq j) (k0_off24_eq j 0) (k0_off24_eq j 1) x0 x1 _ (k0_off25_eq j 0) _
        · by_cases h8 : R.val < 16 * j.val + 8
          · exact ⟨_, List.mem_cons_of_mem _ List.mem_cons_self, ut_mem R L j 0 _ (k0_off25_eq j 0) (k0_off25_inb j 0) (by omega) (by omega)⟩
          · exact ⟨_, List.mem_cons_self, ut_mem R L j 1 _ (k0_off25_eq j 1) (k0_off25_inb j 1) (by omega) (by omega)⟩
    clear hf14
    sl_step
    isplitl [HR_arg10]; · iexact HR_arg10
    isplitl [HR_arg12]; · iexact HR_arg12
    isplitl [HR_arg13]; · iexact HR_arg13
    iexists _
    isplitr
    · ipureintro; exact h14
    · iexact HW_arg14

end Cert.KernelIdeal.Val
end
-- ==== Proof.ValLoops.lean ====
/- The chunk loop over the ideal reading: after `k` trips the table of block maxima holds the first `8 * k` block maxima of every row of the block. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

public import Idealize.ShloMosaic.Lib.Pointwise
public import proofs.«01_k».proof.Proof.Pure2
public import proofs.«01_k».proof.Proof.Pure7
public import proofs.«01_k».proof.Proof.ValPack
@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option warn.classDefReducibility false

/-- The loop `k0_t4`, each buffer its trips write at some contents. -/
@[sl_loop] def loopInv_k0_t4 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (arg0 : BitVec 32) (k0_h1 : k0_cond1 i = 1#1) (v200 : IVec S8x128 32) (v205 : FVec Ideal S8x128 .f32) (X_arg16 : BufTy.Contents (Elt Ideal) arg16.view.ty) :
    LoopInvTy_k0_t4 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h1 v200 v205 where
  inv := fun k acc => iprop((arg16.view.loc (c : Thread nD τ) ↦[arg16.view.set]{fullShare} X_arg16) ∗ (∃ f, (arg17.view.loc (c : Thread nD τ) ↦[arg17.view.set]{fullShare} f)) ∗ (∃ f, (arg18.view.loc (c : Thread nD τ) ↦[arg18.view.set]{fullShare} f)))
  step k acc := by
    have hk := Nat.lt_of_lt_of_le k.isLt k0_t4_abs.2.1
    iintro ⟨HR_arg16, ⟨%f_arg17, HW_arg17⟩, ⟨%f_arg18, HW_arg18⟩⟩
    unfold k0_t4_body
    sl_exec
    sl_step
    isplitl [HR_arg16]; · iexact HR_arg16
    isplitl [HW_arg17]; · iexists _; iexact HW_arg17
    iexists _; iexact HW_arg18

theorem trips8 : Scf.trips k0_t2_loop.lb k0_t2_loop.ub k0_t2_loop.st = 8 := by decide

/-- The loop `k0_t1`, each buffer its trips write at some contents. -/
@[sl_loop] def loopInv_k0_t1 (𝒱 : Variants) (c : Dev nD) (bd : Option 𝒱.V) (E : Set ℕ) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (v0 : Vec Ideal S1x32x128 .i32) (v2 : Vec Ideal S1x32x128 .i32) (v4 : Vec Ideal S1x8x128 .f32) (v6 : Vec Ideal S1x8x128 .f32) (X_arg2 : BufTy.Contents (Elt Ideal) arg2.view.ty) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 where
  inv := fun k acc => iprop((arg2.view.loc (c : Thread nD τ) ↦[arg2.view.set]{fullShare} X_arg2) ∗ (∃ f, ⌜Tabs (k0_pay328 v0) (k0_pay329 v2) (k0_pay330 v4 v6) → ∀ (r : Fin 256) (q : Fin 3584), q.val < 256 * k → arg5.view.read (Elt Ideal) f (ix3 0 r q) = packG (arg2.view.read (Elt Ideal) X_arg2) (ix3 0 r q)⌝ ∗ (arg5.view.loc (c : Thread nD τ) ↦[arg5.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, ⌜∀ (t : Fin 2) (r : Fin 128) (L : Fin 128), r.val < 8 * k → arg15.view.read (Elt Ideal) f (ix3 t r L) = amtG (arg2.view.read (Elt Ideal) X_arg2) (ix3 t r L)⌝ ∗ (arg15.view.loc (c : Thread nD τ) ↦[arg15.view.set]{fullShare} f)))
  step k acc := by
    have hk := Nat.lt_of_lt_of_le k.isLt k0_t1_abs.2.1
    iintro ⟨HR_arg2, ⟨%f_arg5, %hpack, HW_arg5⟩, ⟨%f_arg10, HW_arg10⟩, ⟨%f_arg11, HW_arg11⟩, ⟨%f_arg12, HW_arg12⟩, ⟨%f_arg13, HW_arg13⟩, ⟨%f_arg14, HW_arg14⟩, ⟨%f_arg15, %hinv, HW_arg15⟩⟩
    unfold k0_t1_body
    set_option sl_exec.maxSteps 96 in sl_exec
    generalize hf10 : arg10.view.writes (Elt Ideal) f_arg10 _ = f10
    have h10 : ∀ (t : Fin 2) (s : Fin 256) (p : Fin 2) (L : Fin 128), arg10.view.read (Elt Ideal) f10 (ix4 t s p L) =
       xtN (arg2.view.read (Elt Ideal) X_arg2) k t s p L := by
      intro t s p L
      subst hf10
      refine (View.read_writes_apply_of_pieces arg10.view _ (xtG (arg2.view.read (Elt Ideal) X_arg2) k) _ ?_ (ix4 t s p L) ?_)
      · simp only [List.forall_mem_cons, List.not_mem_nil, false_implies, implies_true, and_true]
        refine ⟨?_, ?_, ?_, ?_, ?_, ?_, ?_, ?_⟩
        all_goals intro x; idx_vars x
        · exact (xt_at1 arg2.view X_arg2 k 3 _ rfl x0 x1 x2 x3).trans (xtG_emb _ _ 1 3 _ _ _ _ _)
        · exact (xt_at1 arg2.view X_arg2 k 2 _ rfl x0 x1 x2 x3).trans (xtG_emb _ _ 1 2 _ _ _ _ _)
        · exact (xt_at1 arg2.view X_arg2 k 1 _ rfl x0 x1 x2 x3).trans (xtG_emb _ _ 1 1 _ _ _ _ _)
        · exact (xt_at1 arg2.view X_arg2 k 0 _ rfl x0 x1 x2 x3).trans (xtG_emb _ _ 1 0 _ _ _ _ _)
        · exact (xt_at0 arg2.view X_arg2 k 3 _ rfl x0 x1 x2 x3).trans (xtG_emb _ _ 0 3 _ _ _ _ _)
        · exact (xt_at0 arg2.view X_arg2 k 2 _ rfl x0 x1 x2 x3).trans (xtG_emb _ _ 0 2 _ _ _ _ _)
        · exact (xt_at0 arg2.view X_arg2 k 1 _ rfl x0 x1 x2 x3).trans (xtG_emb _ _ 0 1 _ _ _ _ _)
        · exact (xt_at0 arg2.view X_arg2 k 0 _ rfl x0 x1 x2 x3).trans (xtG_emb _ _ 0 0 _ _ _ _ _)
      · exact View.cover_of_tiled _ ![1,64,2,128] (by rfl) _
    clear hf10
    set_option sl_exec.maxSteps 72 in sl_exec
    generalize hf11 : arg11.view.writes (Elt Ideal) f_arg11 _ = f11
    have h11 : ∀ (s : Fin 64) (p : Fin 2) (L : Fin 128), arg11.view.read (Elt Ideal) f11 (ix4 0 s p L) =
       ptN (arg2.view.read (Elt Ideal) X_arg2) k 0 s p L := by
      intro s p L
      subst hf11
      refine (View.read_writes_apply_of_pieces arg11.view _ (ptG (arg2.view.read (Elt Ideal) X_arg2) k) _ ?_ (ix4 0 s p L) ?_)
      · simp only [List.forall_mem_cons, List.not_mem_nil, false_implies, implies_true, and_true]
        refine ⟨?_, ?_, ?_, ?_, ?_, ?_, ?_, ?_⟩
        all_goals intro x; idx_vars x
        · exact part_at arg10.view f10 _ k h10 0 7 _ _ _ _ _ rfl x0 x1 x2 x3 _
        · exact part_at arg10.view f10 _ k h10 0 6 _ _ _ _ _ rfl x0 x1 x2 x3 _
        · exact part_at arg10.view f10 _ k h10 0 5 _ _ _ _ _ rfl x0 x1 x2 x3 _
        · exact part_at arg10.view f10 _ k h10 0 4 _ _ _ _ _ rfl x0 x1 x2 x3 _
        · exact part_at arg10.view f10 _ k h10 0 3 _ _ _ _ _ rfl x0 x1 x2 x3 _
        · exact part_at arg10.view f10 _ k h10 0 2 _ _ _ _ _ rfl x0 x1 x2 x3 _
        · exact part_at arg10.view f10 _ k h10 0 1 _ _ _ _ _ rfl x0 x1 x2 x3 _
        · exact part_at arg10.view f10 _ k h10 0 0 _ _ _ _ _ rfl x0 x1 x2 x3 _
      · have hs : s.val / 8 = 7 ∨ s.val / 8 = 6 ∨ s.val / 8 = 5 ∨ s.val / 8 = 4 ∨ s.val / 8 = 3 ∨ s.val / 8 = 2 ∨ s.val / 8 = 1 ∨ s.val / 8 = 0 := by omega
        rcases hs with h | h | h | h | h | h | h | h
        · exact ⟨_, List.mem_cons_self, mem_part 0 s p L 7 h inb_S2x64x2x128_S1x8x2x128_0_56_0_0⟩
        · exact ⟨_, List.mem_cons_of_mem _ (List.mem_cons_self), mem_part 0 s p L 6 h inb_S2x64x2x128_S1x8x2x128_0_48_0_0⟩
        · exact ⟨_, List.mem_cons_of_mem _ (List.mem_cons_of_mem _ (List.mem_cons_self)), mem_part 0 s p L 5 h inb_S2x64x2x128_S1x8x2x128_0_40_0_0⟩
        · exact ⟨_, List.mem_cons_of_mem _ (List.mem_cons_of_mem _ (List.mem_cons_of_mem _ (List.mem_cons_self))), mem_part 0 s p L 4 h inb_S2x64x2x128_S1x8x2x128_0_32_0_0⟩
        · exact ⟨_, List.mem_cons_of_mem _ (List.mem_cons_of_mem _ (List.mem_cons_of_mem _ (List.mem_cons_of_mem _ (List.mem_cons_self)))), mem_part 0 s p L 3 h inb_S2x64x2x128_S1x8x2x128_0_24_0_0⟩
        · exact ⟨_, List.mem_cons_of_mem _ (List.mem_cons_of_mem _ (List.mem_cons_of_mem _ (List.mem_cons_of_mem _ (List.mem_cons_of_mem _ (List.mem_cons_self))))), mem_part 0 s p L 2 h inb_S2x64x2x128_S1x8x2x128_0_16_0_0⟩
        · exact ⟨_, List.mem_cons_of_mem _ (List.mem_cons_of_mem _ (List.mem_cons_of_mem _ (List.mem_cons_of_mem _ (List.mem_cons_of_mem _ (List.mem_cons_of_mem _ (List.mem_cons_self)))))), mem_part 0 s p L 1 h inb_S2x64x2x128_S1x8x2x128_0_8_0_0⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_part 0 s p L 0 h inb_S2x64x2x128_S1x8x2x128_0_0_0_0⟩
    clear hf11
    set_option sl_exec.maxSteps 92 in sl_exec
    generalize hg11 : arg11.view.writes (Elt Ideal) f11 _ = g11
    have k11 : ∀ (s : Fin 64) (p : Fin 2) (L : Fin 128), arg11.view.read (Elt Ideal) g11 (ix4 1 s p L) =
       ptN (arg2.view.read (Elt Ideal) X_arg2) k 1 s p L := by
      intro s p L
      subst hg11
      refine (View.read_writes_apply_of_pieces arg11.view _ (ptG (arg2.view.read (Elt Ideal) X_arg2) k) _ ?_ (ix4 1 s p L) ?_)
      · simp only [List.forall_mem_cons, List.not_mem_nil, false_implies, implies_true, and_true]
        refine ⟨?_, ?_, ?_, ?_, ?_, ?_, ?_, ?_⟩
        all_goals intro x; idx_vars x
        · exact part_at arg10.view f10 _ k h10 1 7 _ _ _ _ _ rfl x0 x1 x2 x3 _
        · exact part_at arg10.view f10 _ k h10 1 6 _ _ _ _ _ rfl x0 x1 x2 x3 _
        · exact part_at arg10.view f10 _ k h10 1 5 _ _ _ _ _ rfl x0 x1 x2 x3 _
        · exact part_at arg10.view f10 _ k h10 1 4 _ _ _ _ _ rfl x0 x1 x2 x3 _
        · exact part_at arg10.view f10 _ k h10 1 3 _ _ _ _ _ rfl x0 x1 x2 x3 _
        · exact part_at arg10.view f10 _ k h10 1 2 _ _ _ _ _ rfl x0 x1 x2 x3 _
        · exact part_at arg10.view f10 _ k h10 1 1 _ _ _ _ _ rfl x0 x1 x2 x3 _
        · exact part_at arg10.view f10 _ k h10 1 0 _ _ _ _ _ rfl x0 x1 x2 x3 _
      · have hs : s.val / 8 = 7 ∨ s.val / 8 = 6 ∨ s.val / 8 = 5 ∨ s.val / 8 = 4 ∨ s.val / 8 = 3 ∨ s.val / 8 = 2 ∨ s.val / 8 = 1 ∨ s.val / 8 = 0 := by omega
        rcases hs with h | h | h | h | h | h | h | h
        · exact ⟨_, List.mem_cons_self, mem_part 1 s p L 7 h inb_S2x64x2x128_S1x8x2x128_1_56_0_0⟩
        · exact ⟨_, List.mem_cons_of_mem _ (List.mem_cons_self), mem_part 1 s p L 6 h inb_S2x64x2x128_S1x8x2x128_1_48_0_0⟩
        · exact ⟨_, List.mem_cons_of_mem _ (List.mem_cons_of_mem _ (List.mem_cons_self)), mem_part 1 s p L 5 h inb_S2x64x2x128_S1x8x2x128_1_40_0_0⟩
        · exact ⟨_, List.mem_cons_of_mem _ (List.mem_cons_of_mem _ (List.mem_cons_of_mem _ (List.mem_cons_self))), mem_part 1 s p L 4 h inb_S2x64x2x128_S1x8x2x128_1_32_0_0⟩
        · exact ⟨_, List.mem_cons_of_mem _ (List.mem_cons_of_mem _ (List.mem_cons_of_mem _ (List.mem_cons_of_mem _ (List.mem_cons_self)))), mem_part 1 s p L 3 h inb_S2x64x2x128_S1x8x2x128_1_24_0_0⟩
        · exact ⟨_, List.mem_cons_of_mem _ (List.mem_cons_of_mem _ (List.mem_cons_of_mem _ (List.mem_cons_of_mem _ (List.mem_cons_of_mem _ (List.mem_cons_self))))), mem_part 1 s p L 2 h inb_S2x64x2x128_S1x8x2x128_1_16_0_0⟩
        · exact ⟨_, List.mem_cons_of_mem _ (List.mem_cons_of_mem _ (List.mem_cons_of_mem _ (List.mem_cons_of_mem _ (List.mem_cons_of_mem _ (List.mem_cons_of_mem _ (List.mem_cons_self)))))), mem_part 1 s p L 1 h inb_S2x64x2x128_S1x8x2x128_1_8_0_0⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_part 1 s p L 0 h inb_S2x64x2x128_S1x8x2x128_1_0_0_0⟩
    clear hg11
    set_option sl_exec.stopBefore "k0_part37" in sl_exec
    generalize hf12 : arg12.view.writes (Elt Ideal) f_arg12 _ = f12
    have h12 : ∀ (t : Fin 2) (j : Fin 8) (L : Fin 128), arg12.view.read (Elt Ideal) f12 (ix3 t j L) = amN (arg2.view.read (Elt Ideal) X_arg2) k t j L := by
      intro t j L
      subst hf12
      refine (View.read_writes_apply_of_pieces arg12.view _ (am3G (arg2.view.read (Elt Ideal) X_arg2) k) _ ?_ (ix3 t j L) ?_)
      · simp only [List.forall_mem_cons, List.not_mem_nil, false_implies, implies_true, and_true]
        refine ⟨?_, ?_⟩
        all_goals intro x; idx_vars x
        · exact am3_at arg11.view g11 _ k 1 k11 _ rfl x0 x1 x2 _
        · exact am3_at arg11.view f11 _ k 0 h11 _ rfl x0 x1 x2 _
      · exact View.cover_of_tiled _ ![1,8,128] (by rfl) _
    clear hf12
    generalize hf15 : arg15.view.writes (Elt Ideal) f_arg15 _ = f15
    have h15 : ∀ (t : Fin 2) (r : Fin 128) (L : Fin 128), r.val < 8 * (k.val + 1) → arg15.view.read (Elt Ideal) f15 (ix3 t r L) = amtG (arg2.view.read (Elt Ideal) X_arg2) (ix3 t r L) := by
      intro t r L hr
      subst hf15
      by_cases hlt : r.val < 8 * k.val
      · rw [View.read_writes_apply_of_forall_not_mem]
        · exact hinv t r L hlt
        · simp only [List.forall_mem_cons, List.not_mem_nil, false_implies, implies_true, and_true]
          exact ⟨amt_not_mem t r L k 1 _ (k0_off18_eq k) _ hlt, amt_not_mem t r L k 0 _ (k0_off17_eq k) _ hlt⟩
      · refine (View.read_writes_apply_of_pieces arg15.view _ (amtG (arg2.view.read (Elt Ideal) X_arg2)) _ ?_ (ix3 t r L) ?_)
        · simp only [List.forall_mem_cons, List.not_mem_nil, false_implies, implies_true, and_true]
          refine ⟨?_, ?_⟩
          all_goals intro x; idx_vars x
          · exact amt_at arg11.view g11 _ k 1 k11 _ rfl x0 x1 x2 _ (k0_off18_eq k) _
          · exact amt_at arg11.view f11 _ k 0 h11 _ rfl x0 x1 x2 _ (k0_off17_eq k) _
        · have ht : t.val = 1 ∨ t.val = 0 := by omega
          rcases ht with ht | ht
          · exact ⟨_, List.mem_cons_self, amt_mem t r L k 1 ht _ (k0_off18_eq k) (k0_off18_inb k) (by omega) hr⟩
          · exact ⟨_, List.mem_cons_of_mem _ List.mem_cons_self, amt_mem t r L k 0 ht _ (k0_off17_eq k) (k0_off17_inb k) (by omega) hr⟩
    clear hf15
    set_option sl_exec.maxSteps 4 in sl_exec
    generalize hf13 : arg13.view.writes (Elt Ideal) f_arg13 _ = f13
    have h13 : ∀ (t : Fin 2) (j : Fin 8) (p : Fin 2) (L : Fin 128), arg13.view.read (Elt Ideal) f13 (ix4 t j p L) = invOf (amN (arg2.view.read (Elt Ideal) X_arg2) k t j L) := by
      intro t j p L
      subst hf13
      refine (View.read_writes_apply_of_pieces arg13.view _ (invG (arg2.view.read (Elt Ideal) X_arg2) k) _ ?_ (ix4 t j p L) ?_)
      · simp only [List.forall_mem_cons, List.not_mem_nil, false_implies, implies_true, _root_.and_true]
        refine ⟨?_, ?_⟩
        all_goals intro x; idx_vars x
        · exact inv_at arg11.view g11 _ k 1 k11 _ (inv_form128 _ _ _ _ _ _ _ _) x0 x1 x2 x3 _
        · exact inv_at arg11.view f11 _ k 0 h11 _ rfl x0 x1 x2 x3 _
      · exact View.cover_of_tiled _ ![1,8,2,128] (by rfl) _
    clear hf13
    sl_exec
    have h14 : Tabs (k0_pay328 v0) (k0_pay329 v2) (k0_pay330 v4 v6) → ∀ R L : Fin 128, arg14.view.read (Elt Ideal) fL0 (ix2 R L) = utG (arg2.view.read (Elt Ideal) X_arg2) k (ix2 R L) :=
      fun hT R L => hL3 _ ⟨hT, rfl, h10, h12, h13⟩ R L (trips8 ▸ by omega)
    generalize hf5 : arg5.view.writes (Elt Ideal) f_arg5 _ = f5
    have h5 : Tabs (k0_pay328 v0) (k0_pay329 v2) (k0_pay330 v4 v6) → ∀ (r : Fin 256) (q : Fin 3584), q.val < 256 * (k.val + 1) → arg5.view.read (Elt Ideal) f5 (ix3 0 r q) = packG (arg2.view.read (Elt Ideal) X_arg2) (ix3 0 r q) := by
      intro hT r q hq
      have hb := h14 hT
      subst hf5
      by_cases hlt : q.val < 256 * k.val
      · rw [View.read_writes_apply_of_forall_not_mem]
        · exact hpack hT r q hlt
        · simp only [List.forall_mem_cons, List.not_mem_nil, false_implies, implies_true, _root_.and_true]
          exact ⟨slab_not_mem r q k 1 7 _ (k0_off33_eq k 1) _ hlt, slab_not_mem r q k 1 6 _ (k0_off32_eq k 1) _ hlt, slab_not_mem r q k 1 5 _ (k0_off31_eq k 1) _ hlt, slab_not_mem r q k 1 4 _ (k0_off30_eq k 1) _ hlt, slab_not_mem r q k 1 3 _ (k0_off29_eq k 1) _ hlt, slab_not_mem r q k 1 2 _ (k0_off28_eq k 1) _ hlt, slab_not_mem r q k 1 1 _ (k0_off27_eq k 1) _ hlt, slab_not_mem r q k 1 0 _ (k0_off26_eq k 1) _ hlt, slab_not_mem r q k 0 7 _ (k0_off33_eq k 0) _ hlt, slab_not_mem r q k 0 6 _ (k0_off32_eq k 0) _ hlt, slab_not_mem r q k 0 5 _ (k0_off31_eq k 0) _ hlt, slab_not_mem r q k 0 4 _ (k0_off30_eq k 0) _ hlt, slab_not_mem r q k 0 3 _ (k0_off29_eq k 0) _ hlt, slab_not_mem r q k 0 2 _ (k0_off28_eq k 0) _ hlt, slab_not_mem r q k 0 1 _ (k0_off27_eq k 0) _ hlt, slab_not_mem r q k 0 0 _ (k0_off26_eq k 0) _ hlt⟩
      · refine (View.read_writes_apply_of_pieces arg5.view _ (packG (arg2.view.read (Elt Ideal) X_arg2)) _ ?_ (ix3 0 r q) ?_)
        · simp only [List.forall_mem_cons, List.not_mem_nil, false_implies, implies_true, _root_.and_true]
          refine ⟨?_, ?_, ?_, ?_, ?_, ?_, ?_, ?_, ?_, ?_, ?_, ?_, ?_, ?_, ?_, ?_⟩
          all_goals intro x; idx_vars x
          · exact slab_at arg14.view fL0 _ k hb 1 7 _ _ rfl slices_S64x128_o56_0_S8x128 _ rfl x0 x1 x2 _ (k0_off33_eq k 1) _
          · exact slab_at arg14.view fL0 _ k hb 1 6 _ _ rfl slices_S64x128_o48_0_S8x128 _ rfl x0 x1 x2 _ (k0_off32_eq k 1) _
          · exact slab_at arg14.view fL0 _ k hb 1 5 _ _ rfl slices_S64x128_o40_0_S8x128 _ rfl x0 x1 x2 _ (k0_off31_eq k 1) _
          · exact slab_at arg14.view fL0 _ k hb 1 4 _ _ rfl slices_S64x128_o32_0_S8x128 _ rfl x0 x1 x2 _ (k0_off30_eq k 1) _
          · exact slab_at arg14.view fL0 _ k hb 1 3 _ _ rfl slices_S64x128_o24_0_S8x128 _ rfl x0 x1 x2 _ (k0_off29_eq k 1) _
          · exact slab_at arg14.view fL0 _ k hb 1 2 _ _ rfl slices_S64x128_o16_0_S8x128 _ rfl x0 x1 x2 _ (k0_off28_eq k 1) _
          · exact slab_at arg14.view fL0 _ k hb 1 1 _ _ rfl slices_S64x128_o8_0_S8x128 _ rfl x0 x1 x2 _ (k0_off27_eq k 1) _
          · exact slab_at arg14.view fL0 _ k hb 1 0 _ _ rfl slices_S64x128_o0_0_S8x128 _ rfl x0 x1 x2 _ (k0_off26_eq k 1) _
          · exact slab_at arg14.view fL0 _ k hb 0 7 _ _ rfl slices_S64x128_o56_0_S8x128 _ rfl x0 x1 x2 _ (k0_off33_eq k 0) _
          · exact slab_at arg14.view fL0 _ k hb 0 6 _ _ rfl slices_S64x128_o48_0_S8x128 _ rfl x0 x1 x2 _ (k0_off32_eq k 0) _
          · exact slab_at arg14.view fL0 _ k hb 0 5 _ _ rfl slices_S64x128_o40_0_S8x128 _ rfl x0 x1 x2 _ (k0_off31_eq k 0) _
          · exact slab_at arg14.view fL0 _ k hb 0 4 _ _ rfl slices_S64x128_o32_0_S8x128 _ rfl x0 x1 x2 _ (k0_off30_eq k 0) _
          · exact slab_at arg14.view fL0 _ k hb 0 3 _ _ rfl slices_S64x128_o24_0_S8x128 _ rfl x0 x1 x2 _ (k0_off29_eq k 0) _
          · exact slab_at arg14.view fL0 _ k hb 0 2 _ _ rfl slices_S64x128_o16_0_S8x128 _ rfl x0 x1 x2 _ (k0_off28_eq k 0) _
          · exact slab_at arg14.view fL0 _ k hb 0 1 _ _ rfl slices_S64x128_o8_0_S8x128 _ (pay136_form _) x0 x1 x2 _ (k0_off27_eq k 0) _
          · exact slab_at arg14.view fL0 _ k hb 0 0 _ _ rfl slices_S64x128_o0_0_S8x128 _ rfl x0 x1 x2 _ (k0_off26_eq k 0) _
        · have hh : q.val / 128 = 2 * k.val + 1 ∨ q.val / 128 = 2 * k.val + 0 := by omega
          have hg : r.val / 32 = 7 ∨ r.val / 32 = 6 ∨ r.val / 32 = 5 ∨ r.val / 32 = 4 ∨ r.val / 32 = 3 ∨ r.val / 32 = 2 ∨ r.val / 32 = 1 ∨ r.val / 32 = 0 := by omega
          rcases hh with hh | hh <;> rcases hg with hg | hg | hg | hg | hg | hg | hg | hg
          · exact ⟨_, List.mem_cons_self, slab_mem r q k 1 7 _ (k0_off33_eq k 1) (k0_off33_inb k 1) hg hh⟩
          · exact ⟨_, List.mem_cons_of_mem _ (List.mem_cons_self), slab_mem r q k 1 6 _ (k0_off32_eq k 1) (k0_off32_inb k 1) hg hh⟩
          · exact ⟨_, List.mem_cons_of_mem _ (List.mem_cons_of_mem _ (List.mem_cons_self)), slab_mem r q k 1 5 _ (k0_off31_eq k 1) (k0_off31_inb k 1) hg hh⟩
          · exact ⟨_, List.mem_cons_of_mem _ (List.mem_cons_of_mem _ (List.mem_cons_of_mem _ (List.mem_cons_self))), slab_mem r q k 1 4 _ (k0_off30_eq k 1) (k0_off30_inb k 1) hg hh⟩
          · exact ⟨_, List.mem_cons_of_mem _ (List.mem_cons_of_mem _ (List.mem_cons_of_mem _ (List.mem_cons_of_mem _ (List.mem_cons_self)))), slab_mem r q k 1 3 _ (k0_off29_eq k 1) (k0_off29_inb k 1) hg hh⟩
          · exact ⟨_, List.mem_cons_of_mem _ (List.mem_cons_of_mem _ (List.mem_cons_of_mem _ (List.mem_cons_of_mem _ (List.mem_cons_of_mem _ (List.mem_cons_self))))), slab_mem r q k 1 2 _ (k0_off28_eq k 1) (k0_off28_inb k 1) hg hh⟩
          · exact ⟨_, List.mem_cons_of_mem _ (List.mem_cons_of_mem _ (List.mem_cons_of_mem _ (List.mem_cons_of_mem _ (List.mem_cons_of_mem _ (List.mem_cons_of_mem _ (List.mem_cons_self)))))), slab_mem r q k 1 1 _ (k0_off27_eq k 1) (k0_off27_inb k 1) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), slab_mem r q k 1 0 _ (k0_off26_eq k 1) (k0_off26_inb k 1) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), slab_mem r q k 0 7 _ (k0_off33_eq k 0) (k0_off33_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), slab_mem r q k 0 6 _ (k0_off32_eq k 0) (k0_off32_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), slab_mem r q k 0 5 _ (k0_off31_eq k 0) (k0_off31_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), slab_mem r q k 0 4 _ (k0_off30_eq k 0) (k0_off30_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), slab_mem r q k 0 3 _ (k0_off29_eq k 0) (k0_off29_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), slab_mem r q k 0 2 _ (k0_off28_eq k 0) (k0_off28_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), slab_mem r q k 0 1 _ (k0_off27_eq k 0) (k0_off27_inb k 0) hg hh⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), slab_mem r q k 0 0 _ (k0_off26_eq k 0) (k0_off26_inb k 0) hg hh⟩
    clear hf5
    sl_step
    isplitl [HR_arg2]; · iexact HR_arg2
    isplitl [HW_arg5]
    · iexists _; isplitr
      · ipureintro; exact h5
      · iexact HW_arg5
    isplitl [HW_arg10]; · iexists _; iexact HW_arg10
    isplitl [HW_arg11]; · iexists _; iexact HW_arg11
    isplitl [HW_arg12]; · iexists _; iexact HW_arg12
    isplitl [HW_arg13]; · iexists _; iexact HW_arg13
    isplitl [HW_arg14]; · iexists _; iexact HW_arg14
    iexists _
    isplitr
    · ipureintro; exact h15
    · iexact HW_arg15

end Cert.KernelIdeal.Val
end
-- ==== Proof.Pure3.lean ====
/- The tail of a grid point: the table of block maxima transposed and cut into the block of the second result and into the rows of the second level's buffer. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

public import Idealize.ShloMosaic.Lib.Pointwise
public import proofs.«01_k».proof.Proof.Pure2
@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option warn.classDefReducibility false

/-- Block `k`'s largest absolute value in row `r` of the block of rows. -/
def abN (W : S1x256x7168.Idx → EReal) (r k : ℕ) : EReal := amax fun c => wN W r (64 * k + c)

theorem amN_eq (W : S1x256x7168.Idx → EReal) (k g a : ℕ) (t : Fin 2) (ha : a < 16) :
    amN W (k / 8) t (k % 8) (16 * g + a) = abN W (32 * g + 16 * t.val + a) k := by
  unfold amN abN xtN
  refine congrArg amax (funext fun c => ?_)
  congr 1 <;> omega

theorem sl16 (g : Fin 8) : S128x128.Slices ![16 * g.val, 0] S16x128 := by revert g; decide

/-- The piece of the second result: row group `g`'s sixteen rows of the transposed table. -/
def tail6 (g : Fin 8) (v31 : FVec Ideal S1x128x128 .f32) : FVec Ideal S1x16x112 .f32 :=
  shapeCast S1x16x112 (extractStridedSlice S16x112 ![0, 0] (extractStridedSlice S16x128 ![16 * g.val, 0] (k0_pay333 v31) (sl16 g)) slices_S16x128_o0_0_S16x112) shapeCasts_S16x112_S1x16x112

/-- The same rows as they enter the second level's buffer. -/
def tail16 (g : Fin 8) (v31 : FVec Ideal S1x128x128 .f32) : FVec Ideal S16x128 .f32 :=
  shapeCast S16x128 (extractStridedSlice S16x128 ![16 * g.val, 0] (k0_pay333 v31) (sl16 g)) shapeCasts_S16x128_S16x128

theorem tail6_at (g : Fin 8) (v31 : FVec Ideal S1x128x128 .f32) (a : Fin 16) (k : Fin 112) :
    tail6 g v31 (ix3 0 a k) = v31 (ix3 0 ⟨k.val, by omega⟩ ⟨16 * g.val + a.val, by omega⟩) := by
  pointwise [tail6, k0_pay333]

theorem tail16_at (g : Fin 8) (v31 : FVec Ideal S1x128x128 .f32) (a : Fin 16) (k : Fin 128) :
    tail16 g v31 (ix2 a k) = v31 (ix3 0 k ⟨16 * g.val + a.val, by omega⟩) := by
  pointwise [tail16, k0_pay333]

def abG (W : S1x256x7168.Idx → EReal) (y : S1x256x112.Idx) : Elt Ideal .f32 := abN W (y 1) (y 2)

section
variable (v : View sig .tc .vmem S2x128x128 .f32) (f : v.ty.Contents (Elt Ideal)) (W : S1x256x7168.Idx → EReal) (t : Fin 2)
    (h : ∀ (r : Fin 128) (L : Fin 128), r.val < 112 → v.read (Elt Ideal) f (ix3 t r L) = amtG W (ix3 t r L))
include h

theorem ld15 (inb) (k L : Fin 128) (hk : k.val < 112) :
    v.readAt (Elt Ideal) (Rect.unit (s := S2x128x128) ![t.val, 0, 0] S1x128x128.size inb).toLoadRect f (ix3 0 k L) = amN W (k.val / 8) t (k.val % 8) L := by
  rw [View.readAt_apply]
  refine Eq.trans (congrArg (v.read (Elt Ideal) f) (funext fun a => Fin.ext ?_)) (h k L hk)
  fin_cases a
  · show t.val + 1 * 0 = t.val; omega
  · show 0 + 1 * k.val = k.val; omega
  · show 0 + 1 * L.val = L.val; omega

theorem ab6_at (g : Fin 8) (inb0) (P : Vec Ideal S1x16x112 .f32)
    (hP : P = tail6 g (v.readAt (Elt Ideal) (Rect.unit (s := S2x128x128) ![t.val, 0, 0] S1x128x128.size inb0).toLoadRect f))
    (z : Fin 1) (a : Fin 16) (k : Fin 112) (inb) :
    P (ix3 z a k) = abG W ((Rect.unit (s := S1x256x112) ![0, 32 * g.val + 16 * t.val, 0] ![1, 16, 112] inb).emb (ix3 z a k)) := by
  subst hP
  obtain rfl : z = 0 := Subsingleton.elim _ _
  rw [tail6_at, ld15 v f W t h _ _ _ k.isLt]
  refine (amN_eq W k g a t a.isLt).trans ?_
  show _ = abN W (32 * g.val + 16 * t.val + 1 * a.val) (0 + 1 * k.val)
  congr 1 <;> omega

end

end Cert.KernelIdeal.Hand
end
-- ==== Proof.Pure8.lean ====
/- The tables as the windows hold them, and as the chunk loop reads them. -/
module

public import proofs.«01_k».proof.Proof.Pure5

@[expose] public section

set_option maxRecDepth 16384
set_option maxHeartbeats 1000000

noncomputable section

namespace Cert.KernelIdeal.Hand

open Cert.KernelIdeal Cert.KernelIdeal.Gen Cert.Code
open Idealize.ShloMosaic Idealize.ShloMosaic.TcCoe
open Idealize.SL.Sem

/-- The tables in their windows: held rows, final codes, magnitudes. -/
structure Tabs3 (T3 : S4x32x128.Idx → BitVec 32) (T4 : S2x8x128.Idx → EReal) : Prop where
  held : ∀ (p : Fin 32) (i : Fin 128), i.val < 32 → T3 (ix3 1 p i) = BitVec.ofNat 32 (held i)
  final : ∀ (p : Fin 32) (i : Fin 128), i.val < 32 → T3 (ix3 2 p i) = BitVec.ofNat 32 (final i)
  mag : ∀ (a : Fin 2) (b : Fin 8) (i : Fin 128), i.val < 32 → T4 (ix3 a b i) = ((Cert.Code.mag i : ℝ) : EReal)

theorem pay328_at (v0 : Vec Ideal S1x32x128 .i32) (p : Fin 32) (i : Fin 128) : k0_pay328 (F := Ideal) v0 (ix2 p i) = v0 (ix3 0 p i) := by
  pointwise [k0_pay328]

theorem pay329_at (v0 : Vec Ideal S1x32x128 .i32) (p : Fin 32) (i : Fin 128) : k0_pay329 (F := Ideal) v0 (ix2 p i) = v0 (ix3 0 p i) := by
  pointwise [k0_pay329]

theorem pay330_at (v4 v6 : Vec Ideal S1x8x128 .f32) (a : Fin 16) (i : Fin 128) :
    k0_pay330 (F := Ideal) v4 v6 (ix2 a i) = if h : a.val < 8 then v4 (ix3 0 ⟨a, h⟩ i) else v6 (ix3 0 ⟨a - 8, by omega⟩ i) := by
  pointwise [k0_pay330]

theorem tabs_of (v3 : View sig .tc .vmem S4x32x128 .i32) (f3 : v3.ty.Contents (Elt Ideal)) (v4 : View sig .tc .vmem S2x8x128 .f32) (f4 : v4.ty.Contents (Elt Ideal))
    (h : Tabs3 (v3.read (Elt Ideal) f3) (v4.read (Elt Ideal) f4)) (i1 i2 j0 j1) :
    Tabs (k0_pay328 (F := Ideal) (v3.readAt (Elt Ideal) (Rect.unit (s := S4x32x128) ![1, 0, 0] S1x32x128.size i1).toLoadRect f3))
      (k0_pay329 (F := Ideal) (v3.readAt (Elt Ideal) (Rect.unit (s := S4x32x128) ![2, 0, 0] S1x32x128.size i2).toLoadRect f3))
      (k0_pay330 (F := Ideal) (v4.readAt (Elt Ideal) (Rect.unit (s := S2x8x128) ![0, 0, 0] S1x8x128.size j0).toLoadRect f4)
        (v4.readAt (Elt Ideal) (Rect.unit (s := S2x8x128) ![1, 0, 0] S1x8x128.size j1).toLoadRect f4)) := by
  refine ⟨fun p i hi => ?_, fun p i hi => ?_, fun a i hi => ?_⟩
  · refine (pay328_at _ p i).trans (Eq.trans (congrArg (v3.read (Elt Ideal) f3) ?_) (h.held p i hi))
    funext c; fin_cases c <;> apply Fin.ext
    · rfl
    · show 0 + 1 * p.val = p.val; omega
    · show 0 + 1 * i.val = i.val; omega
  · refine (pay329_at _ p i).trans (Eq.trans (congrArg (v3.read (Elt Ideal) f3) ?_) (h.final p i hi))
    funext c; fin_cases c <;> apply Fin.ext
    · rfl
    · show 0 + 1 * p.val = p.val; omega
    · show 0 + 1 * i.val = i.val; omega
  · rw [pay330_at]
    split
    · rename_i ha
      refine Eq.trans (congrArg (v4.read (Elt Ideal) f4) ?_) (h.mag 0 ⟨a, ha⟩ i hi)
      funext c; fin_cases c <;> apply Fin.ext
      · rfl
      · show 0 + 1 * a.val = a.val; omega
      · show 0 + 1 * i.val = i.val; omega
    · rename_i ha
      refine Eq.trans (congrArg (v4.read (Elt Ideal) f4) ?_) (h.mag 1 ⟨a - 8, by omega⟩ i hi)
      funext c; fin_cases c <;> apply Fin.ext
      · rfl
      · show 0 + 1 * (a.val - 8) = a.val - 8; omega
      · show 0 + 1 * i.val = i.val; omega

end Cert.KernelIdeal.Hand
end
-- ==== Proof.ValBody.lean ====
/- The body of the program run once at a grid point: the packed codes and the absolute maxima it leaves in the windows of results 0 and 1, every other buffer at some contents. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.ValLoops
public import proofs.«01_k».proof.Proof.Pure3
public import proofs.«01_k».proof.Proof.Pure8
public import Idealize.ShloMosaic.Lib.Pointwise
public import Idealize.ShloMosaic.Lib.Pipeline.Frame
public import Idealize.ShloMosaic.Lib.Tactic

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Idealize.ShloMosaic.Pipeline (RDat)

variable (m : (ℓ : Loc nD τ sig) → Buf (Elt Ideal) ℓ) (ρ : Dev nD → PrngReg)

theorem trips14 : Scf.trips k0_t1_loop.lb k0_t1_loop.ub k0_t1_loop.st = 14 := by decide

set_option maxHeartbeats 16000000 in
/-- The body from a block of weights `W` and the tables `T3`, `T4` to its return: these in place, the packed codes of `W` in `arg5`
    where the tables are the tables, the absolute maxima of `W` in `arg6`, every other buffer at some contents. -/
theorem kernelRun (c : Dev nD) (i : grid0.Coords) (arg2 : Memref sig .tc .vmem S1x256x7168 .bf16) (harg2 : arg2.IsWhole) (arg3 : Memref sig .tc .vmem S4x32x128 .i32) (harg3 : arg3.IsWhole) (arg4 : Memref sig .tc .vmem S2x8x128 .f32) (harg4 : arg4.IsWhole) (arg5 : Memref sig .tc .vmem S1x256x3584 .i8) (harg5 : arg5.IsWhole) (arg6 : Memref sig .tc .vmem S1x256x112 .f32) (harg6 : arg6.IsWhole) (arg7 : Memref sig .tc .vmem S1x896x256 .i8) (harg7 : arg7.IsWhole) (arg8 : Memref sig .tc .vmem S8x896 .f32) (harg8 : arg8.IsWhole) (arg9 : Memref sig .tc .smem S8 .f32) (harg9 : arg9.IsWhole) (arg10 : Memref sig .tc .vmem S2x256x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x2x128 .bf16) (harg13 : arg13.IsWhole) (arg14 : Memref sig .tc .vmem S128x128 .i32) (harg14 : arg14.IsWhole) (arg15 : Memref sig .tc .vmem S2x128x128 .f32) (harg15 : arg15.IsWhole) (arg16 : Memref sig .tc .vmem S2048x128 .f32) (harg16 : arg16.IsWhole) (arg17 : Memref sig .tc .vmem S2x896x128 .f32) (harg17 : arg17.IsWhole) (arg18 : Memref sig .tc .vmem S128x128 .f32) (harg18 : arg18.IsWhole) (W : S1x256x7168.Idx → EReal) (T3 : S4x32x128.Idx → BitVec 32) (T4 : S2x8x128.Idx → EReal) (O : sProp 𝕄) (K : PUnit → sProp 𝕄) :
    iprop(owns (c : Thread nD τ) arg2 fullShare W ∗ owns (c : Thread nD τ) arg3 fullShare T3 ∗ owns (c : Thread nD τ) arg4 fullShare T4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O ∗ (iprop(owns (c : Thread nD τ) arg2 fullShare W ∗ owns (c : Thread nD τ) arg3 fullShare T3 ∗ owns (c : Thread nD τ) arg4 fullShare T4 ∗ (∃ d, ⌜Tabs3 T3 T4 → ∀ (r : Fin 256) (q : Fin 3584), d (ix3 0 r q) = packG W (ix3 0 r q)⌝ ∗ owns (c : Thread nD τ) arg5 fullShare d) ∗ (∃ d, ⌜∀ (r : Fin 256) (k : Fin 112), d (ix3 0 r k) = abN W r k⌝ ∗ owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ O) -∗ K ⟨⟩))
      ⊢ wp frame (wpE (defs₀ (F := Ideal)) Variants.none c none) Set.univ (cc0_nf4_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_nf4_quant_eq_skeleton]; unfold cc0_nf4_quant_skel
  unfold owns
  iintro ⟨⟨%f_arg2, %hW, H_arg2⟩, ⟨%f_arg3, %hT3, H_arg3⟩, ⟨%f_arg4, %hT4, H_arg4⟩, ⟨%d_arg5, %f_arg5, -, H_arg5⟩, ⟨%d_arg6, %f_arg6, -, H_arg6⟩, ⟨%d_arg7, %f_arg7, -, H_arg7⟩, ⟨%d_arg8, %f_arg8, -, H_arg8⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, ⟨%d_arg14, %f_arg14, -, H_arg14⟩, ⟨%d_arg15, %f_arg15, -, H_arg15⟩, ⟨%d_arg16, %f_arg16, -, H_arg16⟩, ⟨%d_arg17, %f_arg17, -, H_arg17⟩, ⟨%d_arg18, %f_arg18, -, H_arg18⟩, HO, Hk⟩
  set_option sl_exec.stopBefore "k0_cond1" in sl_exec
  have hab : ∀ (t : Fin 2) (r L : Fin 128), r.val < 112 → arg15.view.read (Elt Ideal) fL6 (ix3 t r L) = amtG (arg2.view.read (Elt Ideal) f_arg2) (ix3 t r L) :=
    fun t r L hr => hL8 t r L (trips14 ▸ by omega)
  generalize hf6 : arg6.view.writes (Elt Ideal) f_arg6 _ = f6
  have h6 : ∀ (r : Fin 256) (k : Fin 112), arg6.view.read (Elt Ideal) f6 (ix3 0 r k) = abN (arg2.view.read (Elt Ideal) f_arg2) r k := by
    intro r k
    subst hf6
    refine (View.read_writes_apply_of_pieces arg6.view _ (abG (arg2.view.read (Elt Ideal) f_arg2)) _ ?_ (ix3 0 r k) ?_)
    · simp only [List.forall_mem_cons, List.not_mem_nil, false_implies, implies_true, _root_.and_true]
      refine ⟨?_, ?_, ?_, ?_, ?_, ?_, ?_, ?_, ?_, ?_, ?_, ?_, ?_, ?_, ?_, ?_⟩
      all_goals intro x; idx_vars x
      · exact ab6_at arg15.view fL6 _ 1 (hab 1) 7 inb_S2x128x128_S1x128x128_1_0_0 _ rfl x0 x1 x2 _
      · exact ab6_at arg15.view fL6 _ 1 (hab 1) 6 inb_S2x128x128_S1x128x128_1_0_0 _ rfl x0 x1 x2 _
      · exact ab6_at arg15.view fL6 _ 1 (hab 1) 5 inb_S2x128x128_S1x128x128_1_0_0 _ rfl x0 x1 x2 _
      · exact ab6_at arg15.view fL6 _ 1 (hab 1) 4 inb_S2x128x128_S1x128x128_1_0_0 _ rfl x0 x1 x2 _
      · exact ab6_at arg15.view fL6 _ 1 (hab 1) 3 inb_S2x128x128_S1x128x128_1_0_0 _ rfl x0 x1 x2 _
      · exact ab6_at arg15.view fL6 _ 1 (hab 1) 2 inb_S2x128x128_S1x128x128_1_0_0 _ rfl x0 x1 x2 _
      · exact ab6_at arg15.view fL6 _ 1 (hab 1) 1 inb_S2x128x128_S1x128x128_1_0_0 _ rfl x0 x1 x2 _
      · exact ab6_at arg15.view fL6 _ 1 (hab 1) 0 inb_S2x128x128_S1x128x128_1_0_0 _ rfl x0 x1 x2 _
      · exact ab6_at arg15.view fL6 _ 0 (hab 0) 7 inb_S2x128x128_S1x128x128_0_0_0 _ rfl x0 x1 x2 _
      · exact ab6_at arg15.view fL6 _ 0 (hab 0) 6 inb_S2x128x128_S1x128x128_0_0_0 _ rfl x0 x1 x2 _
      · exact ab6_at arg15.view fL6 _ 0 (hab 0) 5 inb_S2x128x128_S1x128x128_0_0_0 _ rfl x0 x1 x2 _
      · exact ab6_at arg15.view fL6 _ 0 (hab 0) 4 inb_S2x128x128_S1x128x128_0_0_0 _ rfl x0 x1 x2 _
      · exact ab6_at arg15.view fL6 _ 0 (hab 0) 3 inb_S2x128x128_S1x128x128_0_0_0 _ rfl x0 x1 x2 _
      · exact ab6_at arg15.view fL6 _ 0 (hab 0) 2 inb_S2x128x128_S1x128x128_0_0_0 _ rfl x0 x1 x2 _
      · exact ab6_at arg15.view fL6 _ 0 (hab 0) 1 inb_S2x128x128_S1x128x128_0_0_0 _ rfl x0 x1 x2 _
      · exact ab6_at arg15.view fL6 _ 0 (hab 0) 0 inb_S2x128x128_S1x128x128_0_0_0 _ rfl x0 x1 x2 _
    · exact View.cover_of_tiled _ ![1,16,112] (by rfl) _
  clear hf6
  subst hW
  subst hT3
  subst hT4
  have h5 : Tabs3 (arg3.view.read (Elt Ideal) f_arg3) (arg4.view.read (Elt Ideal) f_arg4) → ∀ (r : Fin 256) (q : Fin 3584), arg5.view.read (Elt Ideal) fL0 (ix3 0 r q) = packG (arg2.view.read (Elt Ideal) f_arg2) (ix3 0 r q) :=
    fun hT r q => hL1 (tabs_of arg3.view f_arg3 arg4.view f_arg4 hT _ _ _ _) r q (trips14 ▸ by omega)
  by_cases h1 : k0_cond1 i = 1#1
  · by_cases h2 : k0_cond2 i = 1#1
    · sl_exec
      sl_step
      iapply Hk
      isplitl [H_arg2]
      · iexists _; isplitr; swap; · iexact H_arg2
        ipureintro; rfl
      isplitl [H_arg3]
      · iexists _; isplitr; swap; · iexact H_arg3
        ipureintro; rfl
      isplitl [H_arg4]
      · iexists _; isplitr; swap; · iexact H_arg4
        ipureintro; rfl
      isplitl [H_arg5]
      · iexists _; isplitr
        · ipureintro; exact h5
        iexists _; isplitr; swap; · iexact H_arg5
        ipureintro; rfl
      isplitl [H_arg6]
      · iexists _; isplitr
        · ipureintro; exact h6
        iexists _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
    · sl_exec
      sl_step
      iapply Hk
      isplitl [H_arg2]
      · iexists _; isplitr; swap; · iexact H_arg2
        ipureintro; rfl
      isplitl [H_arg3]
      · iexists _; isplitr; swap; · iexact H_arg3
        ipureintro; rfl
      isplitl [H_arg4]
      · iexists _; isplitr; swap; · iexact H_arg4
        ipureintro; rfl
      isplitl [H_arg5]
      · iexists _; isplitr
        · ipureintro; exact h5
        iexists _; isplitr; swap; · iexact H_arg5
        ipureintro; rfl
      isplitl [H_arg6]
      · iexists _; isplitr
        · ipureintro; exact h6
        iexists _; isplitr; swap; · iexact H_arg6
        ipureintro; rfl
      isplitl [H_arg7]
      · iexists _, _; isplitr; swap; · iexact H_arg7
        ipureintro; rfl
      isplitl [H_arg8]
      · iexists _, _; isplitr; swap; · iexact H_arg8
        ipureintro; rfl
      isplitl [H_arg9]
      · iexists _, _; isplitr; swap; · iexact H_arg9
        ipureintro; rfl
      isplitl [H_arg10]
      · iexists _, _; isplitr; swap; · iexact H_arg10
        ipureintro; rfl
      isplitl [H_arg11]
      · iexists _, _; isplitr; swap; · iexact H_arg11
        ipureintro; rfl
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      isplitl [H_arg17]
      · iexists _, _; isplitr; swap; · iexact H_arg17
        ipureintro; rfl
      isplitl [H_arg18]
      · iexists _, _; isplitr; swap; · iexact H_arg18
        ipureintro; rfl
      iexact HO
  · sl_exec
    sl_step
    iapply Hk
    isplitl [H_arg2]
    · iexists _; isplitr; swap; · iexact H_arg2
      ipureintro; rfl
    isplitl [H_arg3]
    · iexists _; isplitr; swap; · iexact H_arg3
      ipureintro; rfl
    isplitl [H_arg4]
    · iexists _; isplitr; swap; · iexact H_arg4
      ipureintro; rfl
    isplitl [H_arg5]
    · iexists _; isplitr
      · ipureintro; exact h5
      iexists _; isplitr; swap; · iexact H_arg5
      ipureintro; rfl
    isplitl [H_arg6]
    · iexists _; isplitr
      · ipureintro; exact h6
      iexists _; isplitr; swap; · iexact H_arg6
      ipureintro; rfl
    isplitl [H_arg7]
    · iexists _, _; isplitr; swap; · iexact H_arg7
      ipureintro; rfl
    isplitl [H_arg8]
    · iexists _, _; isplitr; swap; · iexact H_arg8
      ipureintro; rfl
    isplitl [H_arg9]
    · iexists _, _; isplitr; swap; · iexact H_arg9
      ipureintro; rfl
    isplitl [H_arg10]
    · iexists _, _; isplitr; swap; · iexact H_arg10
      ipureintro; rfl
    isplitl [H_arg11]
    · iexists _, _; isplitr; swap; · iexact H_arg11
      ipureintro; rfl
    isplitl [H_arg12]
    · iexists _, _; isplitr; swap; · iexact H_arg12
      ipureintro; rfl
    isplitl [H_arg13]
    · iexists _, _; isplitr; swap; · iexact H_arg13
      ipureintro; rfl
    isplitl [H_arg14]
    · iexists _, _; isplitr; swap; · iexact H_arg14
      ipureintro; rfl
    isplitl [H_arg15]
    · iexists _, _; isplitr; swap; · iexact H_arg15
      ipureintro; rfl
    isplitl [H_arg16]
    · iexists _, _; isplitr; swap; · iexact H_arg16
      ipureintro; rfl
    isplitl [H_arg17]
    · iexists _, _; isplitr; swap; · iexact H_arg17
      ipureintro; rfl
    isplitl [H_arg18]
    · iexists _, _; isplitr; swap; · iexact H_arg18
      ipureintro; rfl
    iexact HO

end Cert.KernelIdeal.Val
end
-- ==== Proof.Tabs.lean ====
/- The tables that the launch hands to the body: the rows of thresholds, the final codes and the magnitudes. -/
module

public import proofs.«01_k».proof.Proof.Gen.KernelIdeal
public import proofs.«01_k».proof.Proof.Gen.KernelIdeal.Frame
public import proofs.«01_k».proof.Proof.Pure8
public import Idealize.ShloMosaic.Lib.Pointwise
public import Idealize.ShloMosaic.Lib.Pipeline.ValueKit.Geometry
public import Idealize.ShloMosaic.Lib.Tactic

@[expose] public section

set_option maxRecDepth 16384
set_option maxHeartbeats 4000000

noncomputable section

namespace Cert.KernelIdeal.Hand

open Cert.KernelIdeal Cert.KernelIdeal.Gen Cert.Code
open Idealize.ShloMosaic Idealize.ShloMosaic.TcCoe Idealize.ShloMosaic.Tactic
open Idealize.SL.Sem

theorem lit0_held : ∀ i : Fin 32, lit0 ⟨128 + i.val, by omega⟩ = BitVec.ofNat 32 (held i) := by decide +kernel

theorem lit0_final : ∀ i : Fin 32, lit0 ⟨256 + i.val, by omega⟩ = BitVec.ofNat 32 (final i) := by decide +kernel

/-- The magnitudes of the thresholds, as bits. -/
def magBits : ℕ → BitVec 32
  | 0 => 0x3F591CD8#32
  | 1 => 0x3F1C5270#32
  | 2 => 0x3EEB8480#32
  | 3 => 0x3EADEA76#32
  | 4 => 0x3E703CEC#32
  | 5 => 0x3E0D38BC#32
  | 6 => 0x3D3A7871#32
  | 7 => 0x3D22FAFF#32
  | 8 => 0x3DF64862#32
  | 9 => 0x3E5067E0#32
  | 10 => 0x3E9582D4#32
  | 11 => 0x3EC753F9#32
  | 12 => 0x3F006D04#32
  | 13 => 0x3F248DAF#32
  | 14 => 0x3F5C89DA#32
  | _ => 0#32

theorem lit1_bits : ∀ i : Fin 32, lit1 ⟨i.val, by omega⟩ = if i.val = 28 then 0#32 else magBits (held i) := by decide +kernel

theorem magBits_eq : ∀ k : Fin 15, Ideal.ofBits .f32 (magBits k) = ((|Cert.Code.T k| : ℝ) : EReal) := by
  intro k
  fin_cases k
  all_goals simp [magBits, Ideal.ofBits, Ideal.ieee, Cert.Code.T]
  all_goals rw [← EReal.coe_mul]; congr 1; norm_num [abs_of_nonneg, abs_of_neg, abs_of_pos]

theorem held_lt : ∀ i : Fin 32, i.val ≠ 28 → held i < 15 := by decide

theorem lit1_mag (i : Fin 32) : Ideal.ofBits .f32 (lit1 ⟨i.val, by omega⟩) = ((Cert.Code.mag i : ℝ) : EReal) := by
  rw [lit1_bits i]
  unfold Cert.Code.mag
  by_cases h : i.val = 28
  · rw [if_pos h, if_pos h]; simp [Ideal.ofBits, Ideal.ieee]
  · rw [if_neg h, if_neg h]; exact magBits_eq ⟨held i, held_lt i h⟩

variable (m : (ℓ : Loc nD τ sig) → Buf (Elt Ideal) ℓ)

theorem V_tab1 (c : Dev nD) : V m c main_call0_v1 = broadcastInDim S4x32x128 ![0, 1, 2] bcast_S4x1x128_S4x32x128_0_1_2
    (broadcastInDim S4x1x128 ![0, 2] bcast_S4x128_S4x1x128_0_2 (fun i => lit0 (S4x128.rowMajor i))) := by
  unfold V
  simp only [hostOps0, StableHlo.TRef.nullary, StableHlo.TRef.unary, StableHlo.TRef.toBuf, StableHlo.TRef.ofBuf, cast_eq]
  after_results_simp <;> rfl

theorem V_tab2 (c : Dev nD) : V m c main_call0_v2 = broadcastInDim S2x8x128 ![2] bcast_S128_S2x8x128_2
    (fun i => FloatOps.ofBits (F := Ideal) .f32 (lit1 (S128.rowMajor i))) := by
  unfold V
  simp only [hostOps0, StableHlo.TRef.nullary, StableHlo.TRef.unary, StableHlo.TRef.toBuf, StableHlo.TRef.ofBuf, cast_eq]
  after_results_simp <;> rfl

theorem tab1_at (c : Dev nD) (a : Fin 4) (p : Fin 32) (i : Fin 128) : (V m c main_call0_v1 : S4x32x128.Idx → BitVec 32) (ix3 a p i) = lit0 ⟨128 * a.val + i.val, by omega⟩ := by
  rw [V_tab1]
  pointwise
  exact congrArg lit0 (Fin.ext ((Shape.rowMajor_val_two _).trans (by show a.val * 128 + i.val = 128 * a.val + i.val; omega)))

theorem tab2_at (c : Dev nD) (a : Fin 2) (b : Fin 8) (i : Fin 128) : (V m c main_call0_v2 : S2x8x128.Idx → EReal) (ix3 a b i) = Ideal.ofBits .f32 (lit1 i) := by
  rw [V_tab2]
  pointwise
  exact congrArg (fun k => Ideal.ofBits .f32 (lit1 k)) (Fin.ext (Shape.rowMajor_val_one _))

theorem win1_at (c : Dev nD) (t : Fin cfg0.N) (a : Fin 4) (p : Fin 32) (i : Fin 128) :
    (iblk m c 1 t : S4x32x128.Idx → BitVec 32) (ix3 a p i) = (V m c main_call0_v1 : S4x32x128.Idx → BitVec 32) (ix3 a p i) := by
  blk_simp [iblk]
  refine congrArg (V m c main_call0_v1) (funext fun d => Fin.ext ?_)
  match d with
  | ⟨0, _⟩ => blk_simp; show 0 * 4 + a.val = a.val; omega
  | ⟨1, _⟩ => blk_simp; show 0 * 32 + p.val = p.val; omega
  | ⟨2, _⟩ => blk_simp; show 0 * 128 + i.val = i.val; omega

theorem win2_at (c : Dev nD) (t : Fin cfg0.N) (a : Fin 2) (b : Fin 8) (i : Fin 128) :
    (iblk m c 2 t : S2x8x128.Idx → EReal) (ix3 a b i) = (V m c main_call0_v2 : S2x8x128.Idx → EReal) (ix3 a b i) := by
  blk_simp [iblk]
  refine congrArg (V m c main_call0_v2) (funext fun d => Fin.ext ?_)
  match d with
  | ⟨0, _⟩ => blk_simp; show 0 * 2 + a.val = a.val; omega
  | ⟨1, _⟩ => blk_simp; show 0 * 8 + b.val = b.val; omega
  | ⟨2, _⟩ => blk_simp; show 0 * 128 + i.val = i.val; omega

/-- The windows of the tables hold the tables at every point. -/
theorem tabs3 (c : Dev nD) (t : Fin cfg0.N) : Tabs3 (iblk m c 1 t) (iblk m c 2 t) :=
  ⟨fun p i hi => (win1_at m c t 1 p i).trans ((tab1_at m c 1 p i).trans (lit0_held ⟨i.val, hi⟩)),
    fun p i hi => (win1_at m c t 2 p i).trans ((tab1_at m c 2 p i).trans (lit0_final ⟨i.val, hi⟩)),
    fun a b i hi => (win2_at m c t a b i).trans ((tab2_at m c a b i).trans (lit1_mag ⟨i.val, hi⟩))⟩

end Cert.KernelIdeal.Hand

end
-- ==== Proof.ValRun.lean ====
/- The program run to its end: what its arrays hold, from what the body leaves at each grid point. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.ValBody
public import proofs.«01_k».proof.Proof.Pure3
public import proofs.«01_k».proof.Proof.Tabs
public import Idealize.ShloMosaic.Lib.Pointwise
public import Idealize.ShloMosaic.Lib.Pipeline.Frame
public import Idealize.ShloMosaic.Lib.Pipeline.FrameBody
public import Idealize.ShloMosaic.Lib.Pipeline.ArrRel
public import Idealize.ShloMosaic.Lib.Pipeline.ValueKit.Geometry
public import Idealize.ShloMosaic.Lib.Tactic

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Idealize.ShloMosaic.Pipeline (RDat)

variable (m : (ℓ : Loc nD τ sig) → Buf (Elt Ideal) ℓ) (ρ : Dev nD → PrngReg)

/-- Window 0's staging memref at the point. -/
abbrev ms0 (t : Fin cfg0.N) := win0_0.stage (cfg0.slots t 0)
/-- It is a whole buffer. -/
abbrev hs0 (t : Fin cfg0.N) : (ms0 t).IsWhole := hstage0_0 ((cfg0.slots t 0).cast nbuf0_0)
/-- Window 1's staging memref at the point. -/
abbrev ms1 (t : Fin cfg0.N) := win0_1.stage (cfg0.slots t 1)
/-- It is a whole buffer. -/
abbrev hs1 (t : Fin cfg0.N) : (ms1 t).IsWhole := hstage0_1 ((cfg0.slots t 1).cast nbuf0_1)
/-- Window 2's staging memref at the point. -/
abbrev ms2 (t : Fin cfg0.N) := win0_2.stage (cfg0.slots t 2)
/-- It is a whole buffer. -/
abbrev hs2 (t : Fin cfg0.N) : (ms2 t).IsWhole := hstage0_2 ((cfg0.slots t 2).cast nbuf0_2)
/-- Window 3's staging memref at the point. -/
abbrev ms3 (t : Fin cfg0.N) := win0_3.stage (cfg0.slots t 3)
/-- It is a whole buffer. -/
abbrev hs3 (t : Fin cfg0.N) : (ms3 t).IsWhole := hstage0_3 ((cfg0.slots t 3).cast nbuf0_3)
/-- Window 4's staging memref at the point. -/
abbrev ms4 (t : Fin cfg0.N) := win0_4.stage (cfg0.slots t 4)
/-- It is a whole buffer. -/
abbrev hs4 (t : Fin cfg0.N) : (ms4 t).IsWhole := hstage0_4 ((cfg0.slots t 4).cast nbuf0_4)
/-- Window 5's staging memref at the point. -/
abbrev ms5 (t : Fin cfg0.N) := win0_5.stage (cfg0.slots t 5)
/-- It is a whole buffer. -/
abbrev hs5 (t : Fin cfg0.N) : (ms5 t).IsWhole := hstage0_5 ((cfg0.slots t 5).cast nbuf0_5)
/-- Window 6's staging memref at the point. -/
abbrev ms6 (t : Fin cfg0.N) := win0_6.stage (cfg0.slots t 6)
/-- It is a whole buffer. -/
abbrev hs6 (t : Fin cfg0.N) : (ms6 t).IsWhole := hstage0_6 ((cfg0.slots t 6).cast nbuf0_6)
/-- Window 7's staging memref at the point. -/
abbrev ms7 (t : Fin cfg0.N) := win0_7.stage (cfg0.slots t 7)
/-- It is a whole buffer. -/
abbrev hs7 (t : Fin cfg0.N) : (ms7 t).IsWhole := hstage0_7 ((cfg0.slots t 7).cast nbuf0_7)

/-- The scratch at some contents each, and the generator register. -/
theorem Phi_eq (c : Dev nD) :
    (Pipeline.ΦA (Val := Elt Ideal) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA
  rw [scopedRest0_eq]; simp only [owns_whole]; try rfl

/-- What the body leaves at point `t`: the weight block and the tables in place, the packed codes of the block in the window of
    result 0 and its block maxima in the window of result 1. -/
def after (c : Dev nD) : (w : Fin cfg0.W) → (t : Fin cfg0.N) → (Y X : (cfg0.win w).block.Idx → Elt Ideal (cfg0.win w).elt) → Prop
  | ⟨0, _⟩ => fun _ Y X => X = Y
  | ⟨1, _⟩ => fun _ Y X => X = Y
  | ⟨2, _⟩ => fun _ Y X => X = Y
  | ⟨3, _⟩ => fun t _ X => ∀ (r : Fin 256) (q : Fin 3584), X (ix3 0 r q) = packG (iblk m c 0 t) (ix3 0 r q)
  | ⟨4, _⟩ => fun t _ X => ∀ (r : Fin 256) (k : Fin 112), X (ix3 0 r k) = abN (iblk m c 0 t) r k
  | _ => fun _ _ _ => True

/-- The proof data. -/
def rdat (c : Dev nD) : RDat τ (Elt Ideal) Unit ℕ (UR sig nD τ) ℕ cfg0 c where
  A w := V m c (Pipeline.arrRef spec0 w)
  after := after m c
  Φ _ := Pipeline.ΦA spec0 c
  q _ := fullShare
  owed _ := 0

/-- What the body is called with at point `t`. -/
def bodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7))
/-- What it returns. -/
def bodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ ∗ (∃ X, ⌜after m c 0 t (Y 0) X⌝ ∗ owns (c : Thread nD τ) (ms0 t) fullShare X) ∗ (∃ X, ⌜after m c 1 t (Y 1) X⌝ ∗ owns (c : Thread nD τ) (ms1 t) fullShare X) ∗ (∃ X, ⌜after m c 2 t (Y 2) X⌝ ∗ owns (c : Thread nD τ) (ms2 t) fullShare X) ∗ (∃ X, ⌜after m c 3 t (Y 3) X⌝ ∗ owns (c : Thread nD τ) (ms3 t) fullShare X) ∗ (∃ X, ⌜after m c 4 t (Y 4) X⌝ ∗ owns (c : Thread nD τ) (ms4 t) fullShare X) ∗ (∃ X, ⌜after m c 5 t (Y 5) X⌝ ∗ owns (c : Thread nD τ) (ms5 t) fullShare X) ∗ (∃ X, ⌜after m c 6 t (Y 6) X⌝ ∗ owns (c : Thread nD τ) (ms6 t) fullShare X) ∗ (∃ X, ⌜after m c 7 t (Y 7) X⌝ ∗ owns (c : Thread nD τ) (ms7 t) fullShare X))

set_option maxHeartbeats 16000000 in
/-- The body at the point. -/
theorem sound_body (c : Dev nD) (t : Fin cfg0.N) (Y : (w : Fin cfg0.W) → (cfg0.win w).block.Idx → Elt Ideal (cfg0.win w).elt) (hY : Y 0 = iblk m c 0 t)
    (hY1 : Y 1 = iblk m c 1 t) (hY2 : Y 2 = iblk m c 2 t) :
    bodyPre m c t Y ⊢ wp frame (wpE (defs₀ (F := Ideal)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, Phi_eq]
  iintro ⟨⟨⟨S0, S1, S2, S3, S4, S5, S6, S7, S8⟩, Hg⟩, HO, W0, W1, W2, W3, W4, W5, W6, W7⟩
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) _ _)
  isplitl [W0]; · iexact W0
  isplitl [W1]; · iexact W1
  isplitl [W2]; · iexact W2
  isplitl [W3]; · iexists _; iexact W3
  isplitl [W4]; · iexists _; iexact W4
  isplitl [W5]; · iexists _; iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [HO]; · iexact HO
  iintro ⟨W0, W1, W2, ⟨%X3, %h3, W3⟩, ⟨%X4, %h4, W4⟩, ⟨%X5, W5⟩, ⟨%X6, W6⟩, ⟨%X7, W7⟩, S0, S1, S2, S3, S4, S5, S6, S7, S8, HO⟩
  isplitl [S0 S1 S2 S3 S4 S5 S6 S7 S8 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [W0]
  · iexists _; isplitr; swap; · iexact W0
    ipureintro; rfl
  isplitl [W1]
  · iexists _; isplitr; swap; · iexact W1
    ipureintro; rfl
  isplitl [W2]
  · iexists _; isplitr; swap; · iexact W2
    ipureintro; rfl
  isplitl [W3]
  · iexists _; isplitr; swap; · iexact W3
    ipureintro; rw [hY, hY1, hY2] at h3; exact h3 (tabs3 m c t)
  isplitl [W4]
  · iexists _; isplitr; swap; · iexact W4
    ipureintro; rw [hY] at h4; exact h4
  isplitl [W5]
  · iexists _; isplitr; swap; · iexact W5
    ipureintro; trivial
  isplitl [W6]
  · iexists _; isplitr; swap; · iexact W6
    ipureintro; trivial
  iexists _; isplitr; swap; · iexact W7
  ipureintro; trivial

/-- The body table's row at the point is the body. -/
theorem defs₀_row (t : Fin cfg0.N) : defs₀ (F := Ideal) .tc cfg0.body (cfg0.bodyArgs t (cfg0.slots t)) = bodyAt0 t := by
  unfold defs₀; rw [Defs.onTc_tc]

/-- The weight block the body finds is the array's. -/
theorem found_w (c : Dev nD) (t : Fin cfg0.N) (Y : (cfg0.win 0).block.Idx → Elt Ideal (cfg0.win 0).elt)
    (h : (rdat m c).Finds 0 t Y) : Y = iblk m c 0 t := by
  obtain ⟨d, rfl⟩ := ((rdat m c).finds_of_fetch (fetch0_0 t) _).mp h
  unfold RDat.fetched RDat.blockOf iblk; rfl

/-- The first table the body finds is the array's, whether fetched at the point or left there by the point before. -/
theorem found_1 (c : Dev nD) (t : Fin cfg0.N) (Y : (cfg0.win 1).block.Idx → Elt Ideal (cfg0.win 1).elt)
    (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rfl

/-- The second likewise. -/
theorem found_2 (c : Dev nD) (t : Fin cfg0.N) (Y : (cfg0.win 2).block.Idx → Elt Ideal (cfg0.win 2).elt)
    (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rfl

/-- The library's body obligation. -/
theorem body_obligation (c : Dev nD) :
    (rdat m c).BodyObligation (defs₀ (F := Ideal)) Variants.none () Set.univ := fun t Y hY => by
  rw [bigSep_W0, bigSep_W0, defs₀_row]
  exact triple_restated (sound_body m c t Y (found_w m c t _ (hY 0)) (found_1 m c t _ (hY 1)) (found_2 m c t _ (hY 2))) rfl .rfl fun _ => .rfl

theorem eta4 (x : S1x256x112.Idx) : x = ix3 0 (x 1) (x 2) := by
  refine funext fun a => ?_
  match a with
  | ⟨0, _⟩ => exact Subsingleton.elim (α := Fin 1) _ _
  | ⟨1, _⟩ => rfl
  | ⟨2, _⟩ => rfl

/-- The block maxima of the weight array. -/
def abA (A : S8x2048x7168.Idx → EReal) (y : S8x2048x112.Idx) : EReal :=
  amax fun e => if h : 64 * (y 2).val + e < 7168 then A (ix3 (y 0) (y 1) ⟨64 * (y 2).val + e, h⟩) else 0

theorem eta3 (x : S1x256x3584.Idx) : x = ix3 0 (x 1) (x 2) := by
  refine funext fun a => ?_
  match a with
  | ⟨0, _⟩ => exact Subsingleton.elim (α := Fin 1) _ _
  | ⟨1, _⟩ => rfl
  | ⟨2, _⟩ => rfl

/-- The weight array's element at a batch, a row and a column. -/
def wE (A : S8x2048x7168.Idx → EReal) (b : Fin 8) (r : Fin 2048) (q : ℕ) : EReal :=
  if h : q < 7168 then A (ix3 b r ⟨q, h⟩) else 0

/-- A pair's byte: the codes of its two elements under their block's maximum. -/
def pairB (f : ℕ → EReal) (q : ℕ) : BitVec 8 :=
  BitVec.ofNat 8 (Cert.Code.kc (f (2 * q)) (amax fun e => f (64 * (q / 32) + e))) <<< 4
    ||| BitVec.ofNat 8 (Cert.Code.kc (f (2 * q + 1)) (amax fun e => f (64 * (q / 32) + e)))

/-- The packed codes of the weight array. -/
def packA (A : S8x2048x7168.Idx → EReal) (y : S8x2048x3584.Idx) : BitVec 8 := pairB (wE A (y 0) (y 1)) (y 2).val

theorem packN_eq (W : S1x256x7168.Idx → EReal) (r q : ℕ) (hr : r < 256) : packN W r q = pairB (wN W r) q := by
  unfold packN pkN pairB amN xtN
  have e0 : (16 * (r / 32) + r % 16) / 16 * 32 + 16 * (r % 32 / 16) + (16 * (r / 32) + r % 16) % 16 = r := by omega
  rw [e0]
  have e1 : 512 * (q / 256) + 2 * (q % 256) + 0 = 2 * q := by omega
  have e2 : 512 * (q / 256) + 2 * (q % 256) + 1 = 2 * q + 1 := by omega
  have e3 : ∀ e : ℕ, 512 * (q / 256) + 2 * (32 * (q % 256 / 32) + e / 2) + e % 2 = 64 * (q / 32) + e := by intro e; omega
  simp only [e1, e2, e3]

set_option backward.isDefEq.respectTransparency.types false in
/-- The program runs from any memory with zero counters; its argument ends unchanged, result 0 holds the packed codes and result 1
    the block maxima. -/
theorem run_vals :
    θ_run defs (onTc (τ := τ) (main (F := Ideal))) (s₀ m ρ)
      (fun r => ∀ c : Dev nD, r.2.mem ((c.tc : Thread nD τ).loc main_arg0) = m ((c.tc : Thread nD τ).loc main_arg0)
        ∧ r.2.mem ((c.tc : Thread nD τ).loc main_v0_0) = packA (m ((c.tc : Thread nD τ).loc main_arg0))
        ∧ r.2.mem ((c.tc : Thread nD τ).loc main_v0_1) = abA (m ((c.tc : Thread nD τ).loc main_arg0))) :=
  RDat.θ_run_frame cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hΦ := fun _ _ => rfl) (Q' := _)
    (hQ' := fun r h c => by
      refine ⟨(h.1.arr_in c 0 rfl).trans (V_main_arg0 m c), ?_, ?_⟩
      · obtain ⟨af, hl, ha⟩ := h.1.exists_exact c
        refine (ha 3).trans ?_
        refine ((rdat m c).withAfter af).arrAt_eq_of_covers 3 _ (by decide +kernel) fun t hf y => ?_
        obtain ⟨Y, -, hX⟩ := hl 3 t hf
        have hb : ∀ x : S1x256x3584.Idx, (af 3 t : S1x256x3584.Idx → BitVec 8) x = pairB (wN (iblk m c 0 t) (x 1).val) (x 2).val := fun x => by
          rw [eta3 x]; exact (hX (x 1) (x 2)).trans (packN_eq _ _ _ (x 1).isLt)
        refine (hb _).trans ?_
        unfold packA
        blk_simp
        idx_bounds y
        have i32 : win0_3.index t 2 = 0 := rfl
        have x1 : ((cfg0.win 3).xinj (cfg0.grid.coords t) y 1).val = (y 1).val := rfl
        have x2 : ((cfg0.win 3).xinj (cfg0.grid.coords t) y 2).val = (y 2).val := rfl
        rw [x1, x2]
        refine congrArg₂ pairB (funext fun q => ?_) (by rw [i32]; omega)
        unfold wN wE
        blk_simp [iblk]
        by_cases h : q < 7168
        · rw [dif_pos ⟨by omega, h⟩, dif_pos h, V_main_arg0]
          refine congrArg _ (funext fun a => Fin.ext ?_)
          match a with
          | ⟨0, _⟩ => blk_simp; rfl
          | ⟨1, _⟩ => blk_simp; rfl
          | ⟨2, _⟩ => blk_simp; show 0 * 7168 + q = q; omega
        · rw [dif_neg (fun h' => h h'.2), dif_neg h]
      obtain ⟨af, hl, ha⟩ := h.1.exists_exact c
      refine (ha 4).trans ?_
      refine ((rdat m c).withAfter af).arrAt_eq_of_covers 4 _ (by decide +kernel) fun t hf y => ?_
      obtain ⟨Y, -, hX⟩ := hl 4 t hf
      have hb : ∀ x : S1x256x112.Idx, (af 4 t : S1x256x112.Idx → EReal) x = abN (iblk m c 0 t) (x 1).val (x 2).val := fun x => by
        rw [eta4 x]; exact hX (x 1) (x 2)
      refine (hb _).trans ?_
      unfold abN abA
      refine congrArg amax (funext fun e => ?_)
      unfold wN
      blk_simp [iblk]
      idx_bounds y
      have i42 : win0_4.index t 2 = 0 := rfl
      have x1 : ((cfg0.win 4).xinj (cfg0.grid.coords t) y 1).val = (y 1).val := rfl
      have x2 : ((cfg0.win 4).xinj (cfg0.grid.coords t) y 2).val = (y 2).val := rfl
      by_cases h : 64 * (y 2).val + e < 7168
      · rw [dif_pos ⟨by omega, by omega⟩, dif_pos (by omega), V_main_arg0]
        refine congrArg _ (funext fun a => Fin.ext ?_)
        match a with
        | ⟨0, _⟩ => blk_simp; rfl
        | ⟨1, _⟩ => blk_simp; rfl
        | ⟨2, _⟩ => blk_simp; show 0 * 7168 + (64 * (y 2).val + e) = 64 * (0 * 112 + (y 2).val) + e; omega
      · rw [dif_neg (by omega), dif_neg (by omega)])

end Cert.KernelIdeal.Val

end
-- ==== Proof.ValRef.lean ====
/- The reference's results as closed formulas of the weight array. -/
module

public import proofs.«01_k».proof.Proof.Gen.ReferenceIdeal
public import proofs.«01_k».proof.Proof.Pure3
public import Idealize.ShloMosaic.Lib.Pointwise
public import Idealize.ShloMosaic.Lib.Tactic

@[expose] public section

set_option maxRecDepth 16384

noncomputable section

namespace Cert.ReferenceIdeal.Hand

open Cert.ReferenceIdeal Cert.ReferenceIdeal.Gen
open Cert.KernelIdeal.Hand (amax)
open Idealize.ShloMosaic Idealize.ShloMosaic.TcCoe Idealize.ShloMosaic.Tactic

/-- The weight array's element at a batch, a row and a column. -/
def wA (A : S8x2048x7168.Idx → EReal) (b : Fin 8) (r : Fin 2048) (q : ℕ) : EReal :=
  if h : q < 7168 then A (ix3 b r ⟨q, h⟩) else 0

/-- The block maxima of the weight array. -/
def abA (A : S8x2048x7168.Idx → EReal) (b : Fin 8) (r : Fin 2048) (k : ℕ) : EReal :=
  amax fun e => wA A b r (64 * k + e)

/-- The reference's block maxima, as printed. -/
abbrev refAb (A : FVec Ideal S8x2048x7168 .bf16) : FVec Ideal S8x2048x112 .f32 :=
  Host.reduce FloatOps.maximumf (Host.absf (shapeCast _ (extf .f32 A bitsLt_bf16_f32) shapeCasts_S8x2048x7168_S8x2048x112x64)) (constant S_ .f32 0xFF800000#32) reducesTo_S8x2048x112x64_S8x2048x112_d3 h_S_

theorem refAb_at (A : FVec Ideal S8x2048x7168 .bf16) (b : Fin 8) (r : Fin 2048) (k : Fin 112) :
    refAb A (ix3 b r k) = abA A b r k := by
  unfold refAb
  pointwise
  unfold abA amax wA
  have hbot : Ideal.ofBits .f32 4286578688#32 = ⊥ := by simp [Ideal.ofBits, Ideal.ieee]
  rw [hbot]
  refine Finset.fold_congr fun e _ => ?_
  dsimp only
  rw [dif_pos (by omega)]
  have e1 : (⟨k.val * 64 + e.val, by omega⟩ : Fin 7168) = ⟨64 * k.val + e.val, by omega⟩ := Fin.ext (by simp only; omega)
  rw [e1]; rfl

theorem eta3 (x : S8x2048x112.Idx) : x = ix3 (x 0) (x 1) (x 2) := by
  refine funext fun a => ?_
  match a with
  | ⟨0, _⟩ => rfl
  | ⟨1, _⟩ => rfl
  | ⟨2, _⟩ => rfl

end Cert.ReferenceIdeal.Hand

end
-- ==== Proof.RefPack.lean ====
/- The reference's packed codes as a closed formula of the weight array. -/
module

public import proofs.«01_k».proof.Proof.ValRef
public import proofs.«01_k».proof.Proof.Code2

@[expose] public section

set_option maxRecDepth 16384

noncomputable section

namespace Cert.ReferenceIdeal.Hand

open Cert.ReferenceIdeal Cert.ReferenceIdeal.Gen
open Cert.KernelIdeal.Hand (amax)
open Idealize.ShloMosaic Idealize.ShloMosaic.TcCoe Idealize.ShloMosaic.Tactic

/-- The reference's weights over their block maxima, in pairs, as printed. -/
abbrev refU (A : FVec Ideal S8x2048x7168 .bf16) : FVec Ideal S8x2048x3584x2 .f32 :=
  shapeCast _ (mulf (shapeCast _ (extf .f32 A bitsLt_bf16_f32) shapeCasts_S8x2048x7168_S8x2048x112x64) (broadcastInDim S8x2048x112x64 ![0, 1, 2, 3] bcast_S8x2048x112x1_S8x2048x112x64_0_1_2_3 (broadcastInDim S8x2048x112x1 ![0, 1, 2] bcast_S8x2048x112_S8x2048x112x1_0_1_2 (Host.divf (broadcastInDim S8x2048x112 ![] bcast_S_S8x2048x112 (constant S_ .f32 0x3F800000#32)) (select (cmpf .oeq (refAb A) (broadcastInDim S8x2048x112 ![] bcast_S_S8x2048x112 (constant S_ .f32 0x00000000#32))) (broadcastInDim S8x2048x112 ![] bcast_S_S8x2048x112 (constant S_ .f32 0x3F800000#32)) (refAb A)))))) shapeCasts_S8x2048x112x64_S8x2048x3584x2

/-- How many thresholds lie below each, as printed. -/
abbrev refC (A : FVec Ideal S8x2048x7168 .bf16) : IVec S8x2048x3584x2 32 :=
  Host.reduce IntOp.addi (extui 32 (cmpf .ogt (broadcastInDim S8x2048x3584x2x15 ![0, 1, 2, 3, 4] bcast_S8x2048x3584x2x1_S8x2048x3584x2x15_0_1_2_3_4 (broadcastInDim S8x2048x3584x2x1 ![0, 1, 2, 3] bcast_S8x2048x3584x2_S8x2048x3584x2x1_0_1_2_3 (refU A))) (broadcastInDim S8x2048x3584x2x15 ![0, 1, 2, 3, 4] bcast_S1x1x1x1x15_S8x2048x3584x2x15_0_1_2_3_4 (broadcastInDim S1x1x1x1x15 ![4] bcast_S15_S1x1x1x1x15_4 ((fun i => FloatOps.ofBits .f32 (lit0 (S15.rowMajor i))))))) natLt_1_32) (constantI S_ 32 0#32) reducesTo_S8x2048x3584x2x15_S8x2048x3584x2_d4 h_S_

/-- The reference's packed codes, as printed. -/
abbrev refP (A : FVec Ideal S8x2048x7168 .bf16) : IVec S8x2048x3584 8 :=
  trunci 8 (ori (Host.shli (shapeCast _ (extractStridedSlice S8x2048x3584x1 ![0, 0, 0, 0] (refC A) slices_S8x2048x3584x2_S8x2048x3584x1_0_0_0_0) shapeCasts_S8x2048x3584x1_S8x2048x3584) (broadcastInDim S8x2048x3584 ![] bcast_S_S8x2048x3584 (constantI S_ 32 4#32))) (shapeCast _ (extractStridedSlice S8x2048x3584x1 ![0, 0, 0, 1] (refC A) slices_S8x2048x3584x2_S8x2048x3584x1_0_0_0_1) shapeCasts_S8x2048x3584x1_S8x2048x3584)) natLt_8_32

theorem pairs_at (Z : FVec Ideal S8x2048x112x64 .f32) (b : Fin 8) (r : Fin 2048) (c : Fin 3584) (p : Fin 2) :
    shapeCast S8x2048x3584x2 Z shapeCasts_S8x2048x112x64_S8x2048x3584x2 (ix4 b r c p) = Z (ix4 b r ⟨c.val / 32, by omega⟩ ⟨c.val % 32 * 2 + p.val, by omega⟩) := by
  pointwise

theorem scaled_at (A : FVec Ideal S8x2048x7168 .bf16) (M : FVec Ideal S8x2048x112 .f32) (b : Fin 8) (r : Fin 2048) (k : Fin 112) (e : Fin 64) :
    (mulf (shapeCast _ (extf .f32 A bitsLt_bf16_f32) shapeCasts_S8x2048x7168_S8x2048x112x64) (broadcastInDim S8x2048x112x64 ![0, 1, 2, 3] bcast_S8x2048x112x1_S8x2048x112x64_0_1_2_3 (broadcastInDim S8x2048x112x1 ![0, 1, 2] bcast_S8x2048x112_S8x2048x112x1_0_1_2 (Host.divf (broadcastInDim S8x2048x112 ![] bcast_S_S8x2048x112 (constant S_ .f32 0x3F800000#32)) (select (cmpf .oeq M (broadcastInDim S8x2048x112 ![] bcast_S_S8x2048x112 (constant S_ .f32 0x00000000#32))) (broadcastInDim S8x2048x112 ![] bcast_S_S8x2048x112 (constant S_ .f32 0x3F800000#32)) M)))) : FVec Ideal S8x2048x112x64 .f32) (ix4 b r k e)
      = Cert.Code.uOf (wA A b r (k * 64 + e)) (M (ix3 b r k)) := by
  pointwise
  unfold Cert.Code.uOf wA
  rw [dif_pos (by omega)]

theorem refU_at (A : FVec Ideal S8x2048x7168 .bf16) (b : Fin 8) (r : Fin 2048) (c : Fin 3584) (p : Fin 2) :
    refU A (ix4 b r c p) = Cert.Code.uOf (wA A b r (2 * c + p)) (abA A b r (c / 32)) := by
  unfold refU
  refine (pairs_at _ b r c p).trans ?_
  refine (scaled_at A (refAb A) b r _ _).trans ?_
  rw [refAb_at]
  have e : (c.val / 32) * 64 + (c.val % 32 * 2 + p.val) = 2 * c.val + p.val := by omega
  show Cert.Code.uOf (wA A b r (c.val / 32 * 64 + (c.val % 32 * 2 + p.val))) _ = _
  rw [e]

/-- The thresholds as the reference holds them. -/
theorem thresholds : ∀ i : Fin 15, Ideal.ofBits .f32 (lit0 i) = ((Cert.Code.T i : ℝ) : EReal) := by
  intro i
  fin_cases i
  all_goals simp [lit0, Ideal.ofBits, Ideal.ieee, Cert.Code.T]
  all_goals (try rw [← EReal.coe_neg]); rw [← EReal.coe_mul]; congr 1; norm_num

/-- A count of the first `k` of fifteen. -/
theorem count : ∀ k : Fin 16, Finset.fold IntOp.addi 0#32 (fun x : Fin 15 => BitVec.setWidth 32 (BitVec.ofBool (decide (x.val < k.val)))) Finset.univ = BitVec.ofNat 32 k.val := by
  decide

theorem refC_at (A : FVec Ideal S8x2048x7168 .bf16) (b : Fin 8) (r : Fin 2048) (c : Fin 3584) (p : Fin 2) (u : ℝ) (k : ℕ)
    (hu : refU A (ix4 b r c p) = (u : EReal)) (hk : Cert.Code.Brk u k) :
    refC A (ix4 b r c p) = BitVec.ofNat 32 k := by
  unfold refC
  generalize refU A = U at hu
  pointwise
  refine Eq.trans ?_ (count ⟨k, by have := hk.1; omega⟩)
  refine Finset.fold_congr fun x _ => ?_
  refine congrArg (fun z => BitVec.setWidth 32 (BitVec.ofBool z)) (decide_eq_decide.2 ?_)
  show Ideal.ofBits .f32 (lit0 (S15.rowMajor (ix1 x))) < U (ix4 b r c p) ↔ x.val < k
  have e : S15.rowMajor (ix1 x) = x := Fin.ext (Shape.rowMajor_val_one _)
  rw [hu, e, thresholds, EReal.coe_lt_coe_iff]
  exact hk.lt x x.isLt

theorem refP_at (A : FVec Ideal S8x2048x7168 .bf16) (b : Fin 8) (r : Fin 2048) (c : Fin 3584) :
    refP A (ix3 b r c) = BitVec.setWidth 8 (refC A (ix4 b r c 0) <<< 4 ||| refC A (ix4 b r c 1)) := by
  unfold refP
  generalize refC A = C
  pointwise
  rfl

/-- Two codes in a byte, from two codes in a word. -/
theorem byte_of : ∀ a b : Fin 16, BitVec.setWidth 8 (BitVec.ofNat 32 a.val <<< 4 ||| BitVec.ofNat 32 b.val) = BitVec.ofNat 8 a.val <<< 4 ||| BitVec.ofNat 8 b.val := by
  decide

theorem abs_le_amax {n : ℕ} (f : Fin n → EReal) (i : Fin n) : max (f i) (-f i) ≤ Finset.fold max ⊥ (fun j => max (f j) (-f j)) Finset.univ :=
  (Finset.le_fold_max _).2 (Or.inr ⟨i, Finset.mem_univ i, le_rfl⟩)

/-- The reference's packed codes in closed form: the codes of the elements of the pair under their block's maximum. -/
theorem refP_eq (A : FVec Ideal S8x2048x7168 .bf16) (b : Fin 8) (r : Fin 2048) (c : Fin 3584) :
    refP A (ix3 b r c) = BitVec.ofNat 8 (Cert.Code.kc (wA A b r (2 * c)) (abA A b r (c / 32))) <<< 4
      ||| BitVec.ofNat 8 (Cert.Code.kc (wA A b r (2 * c + 1)) (abA A b r (c / 32))) := by
  have h : ∀ p : Fin 2, ∃ k, Cert.Code.kc (wA A b r (2 * c + p)) (abA A b r (c / 32)) = k ∧ k < 16 ∧ refC A (ix4 b r c p) = BitVec.ofNat 32 k := by
    intro p
    have hle : max (wA A b r (2 * c + p)) (-wA A b r (2 * c + p)) ≤ abA A b r (c / 32) := by
      have h := abs_le_amax (fun e : Fin 64 => wA A b r (64 * (c / 32) + e)) ⟨c.val % 32 * 2 + p.val, by omega⟩
      have e : 64 * (c.val / 32) + (c.val % 32 * 2 + p.val) = 2 * c.val + p.val := by omega
      dsimp only at h
      rw [e] at h
      exact h
    obtain ⟨u, hu, hk⟩ := Cert.Code.code_brk _ _ hle
    exact ⟨_, rfl, by have := hk.1; omega, refC_at A b r c p u _ ((refU_at A b r c p).trans hu) hk⟩
  obtain ⟨k0, e0, l0, h0⟩ := h 0
  obtain ⟨k1, e1, l1, h1⟩ := h 1
  rw [refP_at, h0, h1]
  have e0' : Cert.Code.kc (wA A b r (2 * c)) (abA A b r (c / 32)) = k0 := e0
  have e1' : Cert.Code.kc (wA A b r (2 * c + 1)) (abA A b r (c / 32)) = k1 := e1
  rw [e0', e1']
  exact byte_of ⟨k0, l0⟩ ⟨k1, l1⟩

theorem etaP (x : S8x2048x3584.Idx) : x = ix3 (x 0) (x 1) (x 2) := by
  refine funext fun a => ?_
  match a with
  | ⟨0, _⟩ => rfl
  | ⟨1, _⟩ => rfl
  | ⟨2, _⟩ => rfl

end Cert.ReferenceIdeal.Hand

end
-- ==== Proof.lean ====
/- The certificate: the kernel and its idealization run and leave the argument and every counter as they were, likewise the
   reference; the idealization's rules hold; and the idealized kernel computes the reference's results over the extended reals. -/
module

public import proofs.«01_k».proof.Defs
public import proofs.«01_k».proof.Proof.FrameK
public import proofs.«01_k».proof.Proof.FrameI
public import proofs.«01_k».proof.Proof.ValRun
public import proofs.«01_k».proof.Proof.ValRef
public import proofs.«01_k».proof.Proof.RefPack
public import proofs.«01_k».proof.Proof.Gen.KernelIdeal
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its argument ends unchanged and every counter reads zero. -/
theorem kernel_frame : Cert.quiescent_Kernel (hKernel := Cert.Kernel.Gen.facts) := fun m g _ => Cert.Kernel.Hand.run_main m g

/-- The same of the idealized kernel. -/
theorem kernelIdeal_frame : Cert.quiescent_KernelIdeal (hKernelIdeal := Cert.KernelIdeal.Gen.facts) := fun m g _ =>
  Cert.KernelIdeal.Hand.run_main (F := Ideal) m g

/-- The same of the reference, whose program has no counter at all. -/
theorem reference_frame : Cert.quiescent_ReferenceIdeal (hReferenceIdeal := Cert.ReferenceIdeal.Gen.facts) := fun m g _ =>
  (θ_run _ _ _).mono (fun r h => ⟨fun c => (h c).2.2.2.2.2, sem_eq_zero_of_no_sems rfl r.2⟩) (Cert.ReferenceIdeal.Value.run m g)

/-- The idealization's rules, each at the shapes it was used at. -/
theorem preserves : Cert.preserves_Kernel_KernelIdeal :=
  ⟨IdealRules.bf16_pair.bufferStatement _ _, IdealRules.bf16_pair.bufferStatement _ _, IdealRules.bf16_pair.bufferStatement _ _,
    IdealRules.bf16_pair.statement _ _, IdealRules.bf16_pair.statement _ _, IdealRules.bf16_pair.statement _ _,
    IdealRules.bf16_pair.statement _ _, IdealRules.bf16_pair.packStatement _, IdealRules.bf16_pair.statement _ _⟩

/-- The mask's side conditions. -/
theorem covered_facts : Cert.On__covered.Facts := ⟨by decide, by decide, by decide, by decide, by decide⟩

/-- The idealized kernel's packed codes and absolute maxima are the reference's. -/
theorem algebraic : Cert.algebraic_KernelIdeal_ReferenceIdeal_on__covered (hKernelIdeal := Cert.KernelIdeal.Gen.facts)
    (hReferenceIdeal := Cert.ReferenceIdeal.Gen.facts) (hOn__covered := covered_facts) := by
  intro m g m' g' _ hm
  refine ⟨fun c => Cert.KernelIdeal.Val.packA (m ((c.tc : Thread Cert.KernelIdeal.nD Cert.KernelIdeal.τ).loc Cert.KernelIdeal.main_arg0)),
    fun c => Cert.KernelIdeal.Val.abA (m ((c.tc : Thread Cert.KernelIdeal.nD Cert.KernelIdeal.τ).loc Cert.KernelIdeal.main_arg0)),
    fun _ _ => 0#8, fun _ _ => (0 : EReal), fun _ _ => (0 : EReal), ?_, ?_⟩
  · refine (θ_run _ _ _).mono (fun r h c => ⟨fun i _ => ?_, fun i _ => ?_, fun i hi => ?_, fun i hi => ?_, fun i hi => ?_, (h c).1⟩) (Cert.KernelIdeal.Val.run_vals m g)
    · exact congrFun (h c).2.1 i
    · exact congrFun (h c).2.2 i
    · exact absurd (show (0#1 : BitVec 1) = 1#1 from hi) (by decide)
    · exact absurd (show (0#1 : BitVec 1) = 1#1 from hi) (by decide)
    · exact absurd (show (0#1 : BitVec 1) = 1#1 from hi) (by decide)
  · refine (θ_run _ _ _).mono (fun r h c => ⟨fun i _ => ?_, fun i _ => ?_, fun i hi => ?_, fun i hi => ?_, fun i hi => ?_, (h c).2.2.2.2.2⟩) (Cert.ReferenceIdeal.Value.run m' g')
    · refine (congrFun (h c).1 i).trans ?_
      rw [hm c, Cert.ReferenceIdeal.Hand.etaP i]
      exact Cert.ReferenceIdeal.Hand.refP_eq _ _ _ _
    · refine (congrFun (h c).2.1 i).trans ?_
      rw [hm c, Cert.ReferenceIdeal.Hand.eta3 i]
      exact Cert.ReferenceIdeal.Hand.refAb_at _ _ _ _
    · exact absurd (show (0#1 : BitVec 1) = 1#1 from hi) (by decide)
    · exact absurd (show (0#1 : BitVec 1) = 1#1 from hi) (by decide)
    · exact absurd (show (0#1 : BitVec 1) = 1#1 from hi) (by decide)

theorem claim : Cert.Claim :=
  ⟨Cert.Kernel.Gen.facts, Cert.KernelIdeal.Gen.facts, Cert.ReferenceIdeal.Gen.facts, covered_facts, kernel_frame, kernelIdeal_frame, reference_frame,
    preserves, algebraic⟩

end Cert.Proof

end
